-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def holds_KernelIdeal_close_to_reference_pre_in_range [hKernelIdeal : Cert.KernelIdeal.Facts] [hPre_in_range : Cert.Pre_in_range.Facts] [hPost_close_to_reference : Cert.Post_close_to_reference.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ (Cert.Post_close_to_reference.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (r.2.mem ((c.tc : Thread Cert.KernelIdeal.nD Cert.KernelIdeal.τ).loc Cert.KernelIdeal.main_v0))) = (fun _ => 1#1))

def Claim : Prop :=
  ∃ (hKernel : Cert.Kernel.Facts) (hKernelIdeal : Cert.KernelIdeal.Facts) (hReferenceIdeal : Cert.ReferenceIdeal.Facts) (hPre_in_range : Cert.Pre_in_range.Facts) (hPost_close_to_reference : Cert.Post_close_to_reference.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
    ∧ holds_KernelIdeal_close_to_reference_pre_in_range (hKernelIdeal := hKernelIdeal) (hPre_in_range := hPre_in_range) (hPost_close_to_reference := hPost_close_to_reference)
-- ==== Post_close_to_reference.lean ====
abbrev S16x256x20 : Shape := ⟨3, ![16, 256, 20]⟩
abbrev S20x20 : Shape := ⟨2, ![20, 20]⟩
abbrev S16x256x256 : Shape := ⟨3, ![16, 256, 256]⟩
abbrev S_ : Shape := ⟨0, ![]⟩
abbrev S16x256x20x1 : Shape := ⟨4, ![16, 256, 20, 1]⟩
abbrev S1x1x1x20 : Shape := ⟨4, ![1, 1, 1, 20]⟩
abbrev S16x256x20x20 : Shape := ⟨4, ![16, 256, 20, 20]⟩
abbrev S20x16x256x20 : Shape := ⟨4, ![20, 16, 256, 20]⟩
abbrev S16x20 : Shape := ⟨2, ![16, 20]⟩
abbrev S20 : Shape := ⟨1, ![20]⟩
abbrev S20x1 : Shape := ⟨2, ![20, 1]⟩
abbrev S20x2 : Shape := ⟨2, ![20, 2]⟩
abbrev S16x1x20 : Shape := ⟨3, ![16, 1, 20]⟩
abbrev S1x20x1 : Shape := ⟨3, ![1, 20, 1]⟩
abbrev S16x20x20 : Shape := ⟨3, ![16, 20, 20]⟩
abbrev S16x256 : Shape := ⟨2, ![16, 256]⟩
abbrev S256 : Shape := ⟨1, ![256]⟩
abbrev S256x1 : Shape := ⟨2, ![256, 1]⟩
abbrev S256x2 : Shape := ⟨2, ![256, 2]⟩
abbrev S16x256x1 : Shape := ⟨3, ![16, 256, 1]⟩
abbrev S16x1x256 : Shape := ⟨3, ![16, 1, 256]⟩

class Facts : Prop where
  bcast_S_S16x256x20 : S_.BroadcastsInDim S16x256x20 (![] : Fin 0 → Fin S16x256x20.rank)
  bcast_S16x256x20_S16x256x20x1_0_1_2 : S16x256x20.BroadcastsInDim S16x256x20x1 (![0, 1, 2] : Fin 3 → Fin S16x256x20x1.rank)
  bcast_S16x256x20x1_S16x256x20x20_0_1_2_3 : S16x256x20x1.BroadcastsInDim S16x256x20x20 (![0, 1, 2, 3] : Fin 4 → Fin S16x256x20x20.rank)
  bcast_S1x1x1x20_S16x256x20x20_0_1_2_3 : S1x1x1x20.BroadcastsInDim S16x256x20x20 (![0, 1, 2, 3] : Fin 4 → Fin S16x256x20x20.rank)
  transposes_S20x16x256x20_S16x256x20x20_1_2_0_3 : S20x16x256x20.Transposes [1, 2, 0, 3] S16x256x20x20
  reducesTo_S16x256x20x20_S16x20_d1_2 : S16x256x20x20.ReducesTo [1, 2] S16x20
  h_S_ : 0 < S_.numel
  bcast_S_S16x20 : S_.BroadcastsInDim S16x20 (![] : Fin 0 → Fin S16x20.rank)
  bcast_S_S20 : S_.BroadcastsInDim S20 (![] : Fin 0 → Fin S20.rank)
  bcast_S20_S20x1_0 : S20.BroadcastsInDim S20x1 (![0] : Fin 1 → Fin S20x1.rank)
  concatenates_S20x1_S20x1_S20x2_d1 : Shape.Concatenates [S20x1, S20x1] S20x2 1
  bcast_S16x20_S16x1x20_0_2 : S16x20.BroadcastsInDim S16x1x20 (![0, 2] : Fin 2 → Fin S16x1x20.rank)
  bcast_S20_S1x20x1_1 : S20.BroadcastsInDim S1x20x1 (![1] : Fin 1 → Fin S1x20x1.rank)
  bcast_S16x1x20_S16x20x20_0_1_2 : S16x1x20.BroadcastsInDim S16x20x20 (![0, 1, 2] : Fin 3 → Fin S16x20x20.rank)
  bcast_S1x20x1_S16x20x20_0_1_2 : S1x20x1.BroadcastsInDim S16x20x20 (![0, 1, 2] : Fin 3 → Fin S16x20x20.rank)
  bcast_S_S256 : S_.BroadcastsInDim S256 (![] : Fin 0 → Fin S256.rank)
  bcast_S256_S256x1_0 : S256.BroadcastsInDim S256x1 (![0] : Fin 1 → Fin S256x1.rank)
  concatenates_S256x1_S256x1_S256x2_d1 : Shape.Concatenates [S256x1, S256x1] S256x2 1
  natLt_1_32 : 1 < 32
  reducesTo_S16x256x20_S16x256_d2 : S16x256x20.ReducesTo [2] S16x256
  bcast_S16x256_S16x256x1_0_1 : S16x256.BroadcastsInDim S16x256x1 (![0, 1] : Fin 2 → Fin S16x256x1.rank)
  bcast_S16x256_S16x1x256_0_2 : S16x256.BroadcastsInDim S16x1x256 (![0, 2] : Fin 2 → Fin S16x1x256.rank)
  bcast_S16x256x1_S16x256x256_0_1_2 : S16x256x1.BroadcastsInDim S16x256x256 (![0, 1, 2] : Fin 3 → Fin S16x256x256.rank)
  bcast_S16x1x256_S16x256x256_0_1_2 : S16x1x256.BroadcastsInDim S16x256x256 (![0, 1, 2] : Fin 3 → Fin S16x256x256.rank)
  bcast_S_S16x256x256 : S_.BroadcastsInDim S16x256x256 (![] : Fin 0 → Fin S16x256x256.rank)
  dot_S20x20_S16x256x20x20_S20x16x256x20_0_2_1_013_n_n_wf : DotDims.WF S20x20 S16x256x20x20 S20x16x256x20 [0] [2] [1] [0, 1, 3] [] []
  dot_S16x256x20x20_S16x256x20x20_S16x256x256_23_23_1_1_0_0_wf : DotDims.WF S16x256x20x20 S16x256x20x20 S16x256x256 [2, 3] [2, 3] [1] [1] [0] [0]
  gather_S20x20_S20x2_S20_n_01_n_n_01_1_11_wf : GatherDims.WF S20x20 S20x2 S20 [] [0, 1] [] [0, 1] [] 1 ![1, 1]
  dot_S16x256x20x20_S16x20x20_S16x256_23_12_1_n_0_0_wf : DotDims.WF S16x256x20x20 S16x20x20 S16x256 [2, 3] [1, 2] [1] [] [0] [0]
  scatter_S16x256x256_S256x2_S16x256_0_12_12_1_wf : ScatterDims.WF S16x256x256 S256x2 S16x256 [0] [1, 2] [1, 2] 1

variable [Facts]

def dot_S20x20_S16x256x20x20_S20x16x256x20_0_2_1_013_n_n : DotDims S20x20 S16x256x20x20 S20x16x256x20 where
  lhsContracting := [0]
  rhsContracting := [2]
  lhsNonContracting := [1]
  rhsNonContracting := [0, 1, 3]
  lhsBatch := []
  rhsBatch := []
  wf := dot_S20x20_S16x256x20x20_S20x16x256x20_0_2_1_013_n_n_wf
def dot_S16x256x20x20_S16x256x20x20_S16x256x256_23_23_1_1_0_0 : DotDims S16x256x20x20 S16x256x20x20 S16x256x256 where
  lhsContracting := [2, 3]
  rhsContracting := [2, 3]
  lhsNonContracting := [1]
  rhsNonContracting := [1]
  lhsBatch := [0]
  rhsBatch := [0]
  wf := dot_S16x256x20x20_S16x256x20x20_S16x256x256_23_23_1_1_0_0_wf
def gather_S20x20_S20x2_S20_n_01_n_n_01_1_11 : GatherDims S20x20 S20x2 S20 where
  offsetDims := []
  collapsedSliceDims := [0, 1]
  operandBatchingDims := []
  startIndicesBatchingDims := []
  startIndexMap := [0, 1]
  indexVectorDim := 1
  sliceSizes := ![1, 1]
  wf := gather_S20x20_S20x2_S20_n_01_n_n_01_1_11_wf
def dot_S16x256x20x20_S16x20x20_S16x256_23_12_1_n_0_0 : DotDims S16x256x20x20 S16x20x20 S16x256 where
  lhsContracting := [2, 3]
  rhsContracting := [1, 2]
  lhsNonContracting := [1]
  rhsNonContracting := []
  lhsBatch := [0]
  rhsBatch := [0]
  wf := dot_S16x256x20x20_S16x20x20_S16x256_23_12_1_n_0_0_wf
def scatter_S16x256x256_S256x2_S16x256_0_12_12_1 : ScatterDims S16x256x256 S256x2 S16x256 where
  updateWindowDims := [0]
  insertedWindowDims := [1, 2]
  scatterDimsToOperandDims := [1, 2]
  indexVectorDim := 1
  wf := scatter_S16x256x256_S256x2_S16x256_0_12_12_1_wf
def fn_one_hot {F : FTy → Type} [FloatOps F] (arg0 : IVec S16x256x20 32) : FVec F S16x256x20x20 .f32 :=
  let v0 : IVec S16x256x20x1 32 := broadcastInDim S16x256x20x1 ![0, 1, 2] bcast_S16x256x20_S16x256x20x1_0_1_2 arg0
  let v1 : IVec S1x1x1x20 32 := iotaInDim S1x1x1x20 32 3
  let v2 : IVec S16x256x20x20 32 := broadcastInDim S16x256x20x20 ![0, 1, 2, 3] bcast_S16x256x20x1_S16x256x20x20_0_1_2_3 v0
  let v3 : IVec S16x256x20x20 32 := broadcastInDim S16x256x20x20 ![0, 1, 2, 3] bcast_S1x1x1x20_S16x256x20x20_0_1_2_3 v1
  let v4 : IVec S16x256x20x20 1 := cmpi .eq v2 v3
  let v5 : FVec F S16x256x20x20 .f32 := uitofp .f32 v4
  v5

def fn_part3 {F : FTy → Type} [FloatOps F] (main_arg3 : FVec F S16x256x256 .f32) (main_v51 : FVec F S16x256x256 .f32) (main_v59 : FVec F S16x256x256 .f32) : IVec S16x256x256 1 :=
  let main_cst_10 : FVec F S_ .f32 := constant S_ .f32 0x322BCC77#32
  let main_v60 : FVec F S16x256x256 .f32 := broadcastInDim S16x256x256 ![] bcast_S_S16x256x256 main_cst_10
  let main_v61 : FVec F S16x256x256 .f32 := addf main_v59 main_v60
  let main_v62 : FVec F S16x256x256 .f32 := Host.divf main_v51 main_v61
  let main_v63 : FVec F S16x256x256 .f32 := subf main_arg3 main_v62
  let main_v64 : FVec F S16x256x256 .f32 := Host.absf main_v63
  let main_v65 : FVec F S16x256x256 .f32 := Host.absf main_v62
  let main_cst_11 : FVec F S_ .f32 := constant S_ .f32 0x322BCC77#32
  let main_v66 : FVec F S16x256x256 .f32 := broadcastInDim S16x256x256 ![] bcast_S_S16x256x256 main_cst_11
  let main_v67 : FVec F S16x256x256 .f32 := mulf main_v66 main_v65
  let main_v68 : IVec S16x256x256 1 := cmpf .ole main_v64 main_v67
  let main_v69 : IVec S16x256x256 1 := cmpf .oeq main_arg3 main_v62
  let main_v70 : FVec F S16x256x256 .f32 := Host.absf main_v62
  let main_cst_12 : FVec F S_ .f32 := constant S_ .f32 0x7F800000#32
  let main_v71 : FVec F S16x256x256 .f32 := broadcastInDim S16x256x256 ![] bcast_S_S16x256x256 main_cst_12
  let main_v72 : IVec S16x256x256 1 := cmpf .olt main_v70 main_v71
  let main_v73 : IVec S16x256x256 1 := ori main_v69 main_v72
  let main_v74 : IVec S16x256x256 1 := andi main_v68 main_v73
  main_v74

def fn_part2 {F : FTy → Type} [FloatOps F] (main_arg3 : FVec F S16x256x256 .f32) (main_v2 : IVec S16x256x20 1) (main_v10 : FVec F S16x256x256 .f32) (main_v36 : IVec S256 32) (main_v37 : FVec F S16x256 .f32) (main_v39 : IVec S256 1) : IVec S16x256x256 1 :=
  let main_c_6 : IVec S_ 32 := constantI S_ 32 256#32
  let main_v40 : IVec S256 32 := broadcastInDim S256 ![] bcast_S_S256 main_c_6
  let main_v41 : IVec S256 32 := addi main_v36 main_v40
  let main_v42 : IVec S256 32 := select main_v39 main_v41 main_v36
  let main_c_7 : IVec S_ 32 := constantI S_ 32 0#32
  let main_v43 : IVec S256 32 := broadcastInDim S256 ![] bcast_S_S256 main_c_7
  let main_v44 : IVec S256 1 := cmpi .slt main_v36 main_v43
  let main_c_8 : IVec S_ 32 := constantI S_ 32 256#32
  let main_v45 : IVec S256 32 := broadcastInDim S256 ![] bcast_S_S256 main_c_8
  let main_v46 : IVec S256 32 := addi main_v36 main_v45
  let main_v47 : IVec S256 32 := select main_v44 main_v46 main_v36
  let main_v48 : IVec S256x1 32 := broadcastInDim S256x1 ![0] bcast_S256_S256x1_0 main_v42
  let main_v49 : IVec S256x1 32 := broadcastInDim S256x1 ![0] bcast_S256_S256x1_0 main_v47
  let main_v50 : IVec S256x2 32 := (fun a b => concatenate S256x2 1 [⟨S256x1, a⟩, ⟨S256x1, b⟩] concatenates_S256x1_S256x1_S256x2_d1) main_v48 main_v49
  let main_v51 : FVec F S16x256x256 .f32 := (fun x i u => Host.scatterAdd scatter_S16x256x256_S256x2_S16x256_0_12_12_1 x i u) main_v10 main_v50 main_v37
  let main_v52 : IVec S16x256x20 32 := (extui 32 · natLt_1_32) main_v2
  let main_c_9 : IVec S_ 32 := constantI S_ 32 0#32
  let main_v53 : IVec S16x256 32 := (fun x v => Host.reduce IntOp.addi x v reducesTo_S16x256x20_S16x256_d2 h_S_) main_v52 main_c_9
  let main_v54 : FVec F S16x256 .f32 := sitofp .f32 main_v53
  let main_v55 : FVec F S16x256x1 .f32 := broadcastInDim S16x256x1 ![0, 1] bcast_S16x256_S16x256x1_0_1 main_v54
  let main_v56 : FVec F S16x1x256 .f32 := broadcastInDim S16x1x256 ![0, 2] bcast_S16x256_S16x1x256_0_2 main_v54
  let main_v57 : FVec F S16x256x256 .f32 := broadcastInDim S16x256x256 ![0, 1, 2] bcast_S16x256x1_S16x256x256_0_1_2 main_v55
  let main_v58 : FVec F S16x256x256 .f32 := broadcastInDim S16x256x256 ![0, 1, 2] bcast_S16x1x256_S16x256x256_0_1_2 main_v56
  let main_v59 : FVec F S16x256x256 .f32 := mulf main_v57 main_v58
  fn_part3 (F := F) main_arg3 main_v51 main_v59

def fn_part1 {F : FTy → Type} [FloatOps F] (main_arg2 : FVec F S20x20 .f32) (main_arg3 : FVec F S16x256x256 .f32) (main_v2 : IVec S16x256x20 1) (main_v7 : FVec F S16x256x20x20 .f32) (main_v10 : FVec F S16x256x256 .f32) (main_v14 : FVec F S16x20 .f32) (main_v15 : IVec S20 32) (main_v17 : IVec S20 1) (main_v18 : IVec S20 32) : IVec S16x256x256 1 :=
  let main_v19 : IVec S20 32 := addi main_v15 main_v18
  let main_v20 : IVec S20 32 := select main_v17 main_v19 main_v15
  let main_c_3 : IVec S_ 32 := constantI S_ 32 0#32
  let main_v21 : IVec S20 32 := broadcastInDim S20 ![] bcast_S_S20 main_c_3
  let main_v22 : IVec S20 1 := cmpi .slt main_v15 main_v21
  let main_c_4 : IVec S_ 32 := constantI S_ 32 20#32
  let main_v23 : IVec S20 32 := broadcastInDim S20 ![] bcast_S_S20 main_c_4
  let main_v24 : IVec S20 32 := addi main_v15 main_v23
  let main_v25 : IVec S20 32 := select main_v22 main_v24 main_v15
  let main_v26 : IVec S20x1 32 := broadcastInDim S20x1 ![0] bcast_S20_S20x1_0 main_v20
  let main_v27 : IVec S20x1 32 := broadcastInDim S20x1 ![0] bcast_S20_S20x1_0 main_v25
  let main_v28 : IVec S20x2 32 := (fun a b => concatenate S20x2 1 [⟨S20x1, a⟩, ⟨S20x1, b⟩] concatenates_S20x1_S20x1_S20x2_d1) main_v26 main_v27
  let main_v29 : FVec F S20 .f32 := (fun x i => Host.gather gather_S20x20_S20x2_S20_n_01_n_n_01_1_11 x i) main_arg2 main_v28
  let main_v30 : FVec F S16x1x20 .f32 := broadcastInDim S16x1x20 ![0, 2] bcast_S16x20_S16x1x20_0_2 main_v14
  let main_v31 : FVec F S1x20x1 .f32 := broadcastInDim S1x20x1 ![1] bcast_S20_S1x20x1_1 main_v29
  let main_v32 : FVec F S16x20x20 .f32 := broadcastInDim S16x20x20 ![0, 1, 2] bcast_S16x1x20_S16x20x20_0_1_2 main_v30
  let main_v33 : FVec F S16x20x20 .f32 := broadcastInDim S16x20x20 ![0, 1, 2] bcast_S1x20x1_S16x20x20_0_1_2 main_v31
  let main_v34 : FVec F S16x20x20 .f32 := mulf main_v32 main_v33
  let main_v35 : FVec F S16x256 .f32 := (fun l r => Host.dotGeneral dot_S16x256x20x20_S16x20x20_S16x256_23_12_1_n_0_0 none l r) main_v7 main_v34
  let main_v36 : IVec S256 32 := iotaInDim S256 32 0
  let main_v37 : FVec F S16x256 .f32 := Host.negf main_v35
  let main_c_5 : IVec S_ 32 := constantI S_ 32 0#32
  let main_v38 : IVec S256 32 := broadcastInDim S256 ![] bcast_S_S256 main_c_5
  let main_v39 : IVec S256 1 := cmpi .slt main_v36 main_v38
  fn_part2 (F := F) main_arg3 main_v2 main_v10 main_v36 main_v37 main_v39

def fn {F : FTy → Type} [FloatOps F] (main_arg0 : IVec S16x256x20 32) (main_arg1 : IVec S16x256x20 32) (main_arg2 : FVec F S20x20 .f32) (main_arg3 : FVec F S16x256x256 .f32) : IVec S16x256x256 1 :=
  let main_c : IVec S_ 32 := constantI S_ 32 0#32
  let main_v0 : IVec S16x256x20 32 := broadcastInDim S16x256x20 ![] bcast_S_S16x256x20 main_c
  let main_v1 : IVec S16x256x20 1 := cmpi .ne main_arg1 main_v0
  let main_v2 : IVec S16x256x20 1 := id main_v1
  let main_v3 : FVec F S16x256x20x20 .f32 := fn_one_hot (F := F) main_arg0
  let main_v4 : IVec S16x256x20x1 1 := broadcastInDim S16x256x20x1 ![0, 1, 2] bcast_S16x256x20_S16x256x20x1_0_1_2 main_v2
  let main_v5 : FVec F S16x256x20x1 .f32 := uitofp .f32 main_v4
  let main_v6 : FVec F S16x256x20x20 .f32 := broadcastInDim S16x256x20x20 ![0, 1, 2, 3] bcast_S16x256x20x1_S16x256x20x20_0_1_2_3 main_v5
  let main_v7 : FVec F S16x256x20x20 .f32 := mulf main_v3 main_v6
  let main_v8 : FVec F S20x16x256x20 .f32 := (fun l r => Host.dotGeneral dot_S20x20_S16x256x20x20_S20x16x256x20_0_2_1_013_n_n none l r) main_arg2 main_v7
  let main_v9 : FVec F S16x256x20x20 .f32 := (transpose S16x256x20x20 [1, 2, 0, 3] · transposes_S20x16x256x20_S16x256x20x20_1_2_0_3) main_v8
  let main_v10 : FVec F S16x256x256 .f32 := (fun l r => Host.dotGeneral dot_S16x256x20x20_S16x256x20x20_S16x256x256_23_23_1_1_0_0 none l r) main_v9 main_v7
  let main_cst : FVec F S_ .f32 := constant S_ .f32 0x00000000#32
  let main_v11 : FVec F S16x20 .f32 := (fun x v => Host.reduceAdd x v reducesTo_S16x256x20x20_S16x20_d1_2 h_S_) main_v7 main_cst
  let main_cst_0 : FVec F S_ .f32 := constant S_ .f32 0x3F800000#32
  let main_v12 : FVec F S16x20 .f32 := broadcastInDim S16x20 ![] bcast_S_S16x20 main_cst_0
  let main_v13 : IVec S16x20 1 := cmpf .oeq main_v11 main_v12
  let main_v14 : FVec F S16x20 .f32 := uitofp .f32 main_v13
  let main_v15 : IVec S20 32 := iotaInDim S20 32 0
  let main_c_1 : IVec S_ 32 := constantI S_ 32 0#32
  let main_v16 : IVec S20 32 := broadcastInDim S20 ![] bcast_S_S20 main_c_1
  let main_v17 : IVec S20 1 := cmpi .slt main_v15 main_v16
  let main_c_2 : IVec S_ 32 := constantI S_ 32 20#32
  let main_v18 : IVec S20 32 := broadcastInDim S20 ![] bcast_S_S20 main_c_2
  fn_part1 (F := F) main_arg2 main_arg3 main_v2 main_v7 main_v10 main_v14 main_v15 main_v17 main_v18
-- ==== Pre_in_range.lean ====
abbrev S16x256x20 : Shape := ⟨3, ![16, 256, 20]⟩
abbrev S20x20 : Shape := ⟨2, ![20, 20]⟩
abbrev S_ : Shape := ⟨0, ![]⟩

class Facts : Prop where
  bcast_S_S16x256x20 : S_.BroadcastsInDim S16x256x20 (![] : Fin 0 → Fin S16x256x20.rank)
  reducesTo_S16x256x20_S_d0_1_2 : S16x256x20.ReducesTo [0, 1, 2] S_
  h_S_ : 0 < S_.numel

variable [Facts]

def fn {F : FTy → Type} [FloatOps F] (main_arg0 : IVec S16x256x20 32) (main_arg1 : IVec S16x256x20 32) (main_arg2 : FVec F S20x20 .f32) : IVec S_ 1 :=
  let main_c : IVec S_ 32 := constantI S_ 32 0#32
  let main_v0 : IVec S16x256x20 32 := broadcastInDim S16x256x20 ![] bcast_S_S16x256x20 main_c
  let main_v1 : IVec S16x256x20 1 := cmpi .sge main_arg0 main_v0
  let main_c_0 : IVec S_ 32 := constantI S_ 32 20#32
  let main_v2 : IVec S16x256x20 32 := broadcastInDim S16x256x20 ![] bcast_S_S16x256x20 main_c_0
  let main_v3 : IVec S16x256x20 1 := cmpi .slt main_arg0 main_v2
  let main_v4 : IVec S16x256x20 1 := andi main_v1 main_v3
  let main_c_1 : IVec S_ 1 := constantI S_ 1 1#1
  let main_v5 : IVec S_ 1 := (fun x v => Host.reduce IntOp.andi x v reducesTo_S16x256x20_S_d0_1_2 h_S_) main_v4 main_c_1
  let main_c_2 : IVec S_ 32 := constantI S_ 32 0#32
  let main_v6 : IVec S16x256x20 32 := broadcastInDim S16x256x20 ![] bcast_S_S16x256x20 main_c_2
  let main_v7 : IVec S16x256x20 1 := cmpi .sge main_arg1 main_v6
  let main_c_3 : IVec S_ 32 := constantI S_ 32 1#32
  let main_v8 : IVec S16x256x20 32 := broadcastInDim S16x256x20 ![] bcast_S_S16x256x20 main_c_3
  let main_v9 : IVec S16x256x20 1 := cmpi .sle main_arg1 main_v8
  let main_v10 : IVec S16x256x20 1 := andi main_v7 main_v9
  let main_c_4 : IVec S_ 1 := constantI S_ 1 1#1
  let main_v11 : IVec S_ 1 := (fun x v => Host.reduce IntOp.andi x v reducesTo_S16x256x20_S_d0_1_2 h_S_) main_v10 main_c_4
  let main_v12 : IVec S_ 1 := andi main_v5 main_v11
  main_v12
-- ==== Kernel.lean ====
abbrev S16x256x20 : Shape := ⟨3, ![16, 256, 20]⟩
abbrev S20x20 : Shape := ⟨2, ![20, 20]⟩
abbrev S16x256x256 : Shape := ⟨3, ![16, 256, 256]⟩
abbrev S4x256x20 : Shape := ⟨3, ![4, 256, 20]⟩
abbrev S4x256x256 : Shape := ⟨3, ![4, 256, 256]⟩
abbrev S20x400 : Shape := ⟨2, ![20, 400]⟩
abbrev S400x400 : Shape := ⟨2, ![400, 400]⟩
abbrev S1x400 : Shape := ⟨2, ![1, 400]⟩
abbrev S20 : Shape := ⟨1, ![20]⟩
abbrev S1x20 : Shape := ⟨2, ![1, 20]⟩
abbrev S256x400 : Shape := ⟨2, ![256, 400]⟩
abbrev S256x256 : Shape := ⟨2, ![256, 256]⟩
abbrev S1x256x20 : Shape := ⟨3, ![1, 256, 20]⟩
abbrev S256x20 : Shape := ⟨2, ![256, 20]⟩
abbrev S256 : Shape := ⟨1, ![256]⟩
abbrev S256x1 : Shape := ⟨2, ![256, 1]⟩
abbrev S400 : Shape := ⟨1, ![400]⟩
abbrev S1x256x256 : Shape := ⟨3, ![1, 256, 256]⟩

abbrev nBuf : Space → Nat
  | .hbm => 4
  | .vmem => 11
  | .smem => 0
  | _ => 0

abbrev bufTy : (tb : Table) → Fin (tcTables nBuf tb) → BufTy
  | .hbm, ⟨0, _⟩ => ⟨S16x256x20, .i32⟩
  | .hbm, ⟨1, _⟩ => ⟨S16x256x20, .i32⟩
  | .hbm, ⟨2, _⟩ => ⟨S20x20, .f32⟩
  | .hbm, ⟨3, _⟩ => ⟨S16x256x256, .f32⟩
  | .local _ .vmem, ⟨0, _⟩ => ⟨S4x256x20, .i32⟩
  | .local _ .vmem, ⟨1, _⟩ => ⟨S4x256x20, .i32⟩
  | .local _ .vmem, ⟨2, _⟩ => ⟨S4x256x20, .i32⟩
  | .local _ .vmem, ⟨3, _⟩ => ⟨S4x256x20, .i32⟩
  | .local _ .vmem, ⟨4, _⟩ => ⟨S20x20, .f32⟩
  | .local _ .vmem, ⟨5, _⟩ => ⟨S4x256x256, .f32⟩
  | .local _ .vmem, ⟨6, _⟩ => ⟨S4x256x256, .f32⟩
  | .local _ .vmem, ⟨7, _⟩ => ⟨S20x400, .bf16⟩
  | .local _ .vmem, ⟨8, _⟩ => ⟨S400x400, .bf16⟩
  | .local _ .vmem, ⟨9, _⟩ => ⟨S400x400, .f32⟩
  | .local _ .vmem, ⟨10, _⟩ => ⟨S1x400, .f32⟩
  | _, _ => ⟨S16x256x20, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_scratch3 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x256x20 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x256x20 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S20x20 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4x256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S16x256x20 : Shape := ⟨3, ![16, 256, 20]⟩
abbrev S20x20 : Shape := ⟨2, ![20, 20]⟩
abbrev S_ : Shape := ⟨0, ![]⟩
abbrev S16x256x20x1 : Shape := ⟨4, ![16, 256, 20, 1]⟩
abbrev S1x1x1x20 : Shape := ⟨4, ![1, 1, 1, 20]⟩
abbrev S16x256x20x20 : Shape := ⟨4, ![16, 256, 20, 20]⟩
abbrev S20x16x256x20 : Shape := ⟨4, ![20, 16, 256, 20]⟩
abbrev S16x256x256 : Shape := ⟨3, ![16, 256, 256]⟩
abbrev S16x20 : Shape := ⟨2, ![16, 20]⟩
abbrev S20 : Shape := ⟨1, ![20]⟩
abbrev S20x1 : Shape := ⟨2, ![20, 1]⟩
abbrev S20x2 : Shape := ⟨2, ![20, 2]⟩
abbrev S16x1x20 : Shape := ⟨3, ![16, 1, 20]⟩
abbrev S1x20x1 : Shape := ⟨3, ![1, 20, 1]⟩
abbrev S16x20x20 : Shape := ⟨3, ![16, 20, 20]⟩
abbrev S16x256 : Shape := ⟨2, ![16, 256]⟩
abbrev S256 : Shape := ⟨1, ![256]⟩
abbrev S256x1 : Shape := ⟨2, ![256, 1]⟩
abbrev S256x2 : Shape := ⟨2, ![256, 2]⟩
abbrev S16x256x1 : Shape := ⟨3, ![16, 256, 1]⟩
abbrev S16x1x256 : Shape := ⟨3, ![16, 1, 256]⟩

abbrev nBuf : Space → Nat
  | .hbm => 84
  | .vmem => 0
  | .smem => 0
  | _ => 0

abbrev bufTy : (tb : Table) → Fin (tcTables nBuf tb) → BufTy
  | .hbm, ⟨0, _⟩ => ⟨S16x256x20, .i32⟩
  | .hbm, ⟨1, _⟩ => ⟨S16x256x20, .i32⟩
  | .hbm, ⟨2, _⟩ => ⟨S20x20, .f32⟩
  | .hbm, ⟨3, _⟩ => ⟨S_, .i32⟩
  | .hbm, ⟨4, _⟩ => ⟨S16x256x20, .i32⟩
  | .hbm, ⟨5, _⟩ => ⟨S16x256x20, .i1⟩
  | .hbm, ⟨6, _⟩ => ⟨S16x256x20, .i1⟩
  | .hbm, ⟨7, _⟩ => ⟨S16x256x20x1, .i32⟩
  | .hbm, ⟨8, _⟩ => ⟨S1x1x1x20, .i32⟩
  | .hbm, ⟨9, _⟩ => ⟨S16x256x20x20, .i32⟩
  | .hbm, ⟨10, _⟩ => ⟨S16x256x20x20, .i32⟩
  | .hbm, ⟨11, _⟩ => ⟨S16x256x20x20, .i1⟩
  | .hbm, ⟨12, _⟩ => ⟨S16x256x20x20, .f32⟩
  | .hbm, ⟨13, _⟩ => ⟨S16x256x20x1, .i1⟩
  | .hbm, ⟨14, _⟩ => ⟨S16x256x20x1, .f32⟩
  | .hbm, ⟨15, _⟩ => ⟨S16x256x20x20, .f32⟩
  | .hbm, ⟨16, _⟩ => ⟨S16x256x20x20, .f32⟩
  | .hbm, ⟨17, _⟩ => ⟨S20x16x256x20, .f32⟩
  | .hbm, ⟨18, _⟩ => ⟨S16x256x20x20, .f32⟩
  | .hbm, ⟨19, _⟩ => ⟨S16x256x256, .f32⟩
  | .hbm, ⟨20, _⟩ => ⟨S_, .f32⟩
  | .hbm, ⟨21, _⟩ => ⟨S16x20, .f32⟩
  | .hbm, ⟨22, _⟩ => ⟨S_, .f32⟩
  | .hbm, ⟨23, _⟩ => ⟨S16x20, .f32⟩
  | .hbm, ⟨24, _⟩ => ⟨S16x20, .i1⟩
  | .hbm, ⟨25, _⟩ => ⟨S16x20, .f32⟩
  | .hbm, ⟨26, _⟩ => ⟨S20, .i32⟩
  | .hbm, ⟨27, _⟩ => ⟨S_, .i32⟩
  | .hbm, ⟨28, _⟩ => ⟨S20, .i32⟩
  | .hbm, ⟨29, _⟩ => ⟨S20, .i1⟩
  | .hbm, ⟨30, _⟩ => ⟨S_, .i32⟩
  | .hbm, ⟨31, _⟩ => ⟨S20, .i32⟩
  | .hbm, ⟨32, _⟩ => ⟨S20, .i32⟩
  | .hbm, ⟨33, _⟩ => ⟨S20, .i32⟩
  | .hbm, ⟨34, _⟩ => ⟨S_, .i32⟩
  | .hbm, ⟨35, _⟩ => ⟨S20, .i32⟩
  | .hbm, ⟨36, _⟩ => ⟨S20, .i1⟩
  | .hbm, ⟨37, _⟩ => ⟨S_, .i32⟩
  | .hbm, ⟨38, _⟩ => ⟨S20, .i32⟩
  | .hbm, ⟨39, _⟩ => ⟨S20, .i32⟩
  | .hbm, ⟨40, _⟩ => ⟨S20, .i32⟩
  | .hbm, ⟨41, _⟩ => ⟨S20x1, .i32⟩
  | .hbm, ⟨42, _⟩ => ⟨S20x1, .i32⟩
  | .hbm, ⟨43, _⟩ => ⟨S20x2, .i32⟩
  | .hbm, ⟨44, _⟩ => ⟨S20, .f32⟩
  | .hbm, ⟨45, _⟩ => ⟨S16x1x20, .f32⟩
  | .hbm, ⟨46, _⟩ => ⟨S1x20x1, .f32⟩
  | .hbm, ⟨47, _⟩ => ⟨S16x20x20, .f32⟩
  | .hbm, ⟨48, _⟩ => ⟨S16x20x20, .f32⟩
  | .hbm, ⟨49, _⟩ => ⟨S16x20x20, .f32⟩
  | .hbm, ⟨50, _⟩ => ⟨S16x256, .f32⟩
  | .hbm, ⟨51, _⟩ => ⟨S256, .i32⟩
  | .hbm, ⟨52, _⟩ => ⟨S16x256, .f32⟩
  | .hbm, ⟨53, _⟩ => ⟨S_, .i32⟩
  | .hbm, ⟨54, _⟩ => ⟨S256, .i32⟩
  | .hbm, ⟨55, _⟩ => ⟨S256, .i1⟩
  | .hbm, ⟨56, _⟩ => ⟨S_, .i32⟩
  | .hbm, ⟨57, _⟩ => ⟨S256, .i32⟩
  | .hbm, ⟨58, _⟩ => ⟨S256, .i32⟩
  | .hbm, ⟨59, _⟩ => ⟨S256, .i32⟩
  | .hbm, ⟨60, _⟩ => ⟨S_, .i32⟩
  | .hbm, ⟨61, _⟩ => ⟨S256, .i32⟩
  | .hbm, ⟨62, _⟩ => ⟨S256, .i1⟩
  | .hbm, ⟨63, _⟩ => ⟨S_, .i32⟩
  | .hbm, ⟨64, _⟩ => ⟨S256, .i32⟩
  | .hbm, ⟨65, _⟩ => ⟨S256, .i32⟩
  | .hbm, ⟨66, _⟩ => ⟨S256, .i32⟩
  | .hbm, ⟨67, _⟩ => ⟨S256x1, .i32⟩
  | .hbm, ⟨68, _⟩ => ⟨S256x1, .i32⟩
  | .hbm, ⟨69, _⟩ => ⟨S256x2, .i32⟩
  | .hbm, ⟨70, _⟩ => ⟨S16x256x256, .f32⟩
  | .hbm, ⟨71, _⟩ => ⟨S16x256x20, .i32⟩
  | .hbm, ⟨72, _⟩ => ⟨S_, .i32⟩
  | .hbm, ⟨73, _⟩ => ⟨S16x256, .i32⟩
  | .hbm, ⟨74, _⟩ => ⟨S16x256, .f32⟩
  | .hbm, ⟨75, _⟩ => ⟨S_, .f32⟩
  | .hbm, ⟨76, _⟩ => ⟨S16x256, .f32⟩
  | .hbm, ⟨77, _⟩ => ⟨S16x256, .f32⟩
  | .hbm, ⟨78, _⟩ => ⟨S16x256x1, .f32⟩
  | .hbm, ⟨79, _⟩ => ⟨S16x1x256, .f32⟩
  | .hbm, ⟨80, _⟩ => ⟨S16x256x256, .f32⟩
  | .hbm, ⟨81, _⟩ => ⟨S16x256x256, .f32⟩
  | .hbm, ⟨82, _⟩ => ⟨S16x256x256, .f32⟩
  | .hbm, ⟨83, _⟩ => ⟨S16x256x256, .f32⟩
  | _, _ => ⟨S16x256x20, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_cst_0 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_c_1 : Ref sig .tc := ⟨.hbm, 27, rfl⟩
abbrev main_v16 : Ref sig .tc := ⟨.hbm, 28, rfl⟩
abbrev main_v17 : Ref sig .tc := ⟨.hbm, 29, rfl⟩
abbrev main_c_2 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_c_3 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_c_5 : Ref sig .tc := ⟨.hbm, 53, rfl⟩
abbrev main_v38 : Ref sig .tc := ⟨.hbm, 54, rfl⟩
abbrev main_v39 : Ref sig .tc := ⟨.hbm, 55, rfl⟩
abbrev main_c_6 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_c_7 : Ref sig .tc := ⟨.hbm, 60, rfl⟩
abbrev main_v43 : Ref sig .tc := ⟨.hbm, 61, rfl⟩
abbrev main_v44 : Ref sig .tc := ⟨.hbm, 62, rfl⟩
abbrev main_c_8 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_c_9 : Ref sig .tc := ⟨.hbm, 72, rfl⟩
abbrev main_v53 : Ref sig .tc := ⟨.hbm, 73, rfl⟩
abbrev main_v54 : Ref sig .tc := ⟨.hbm, 74, rfl⟩
abbrev main_cst_10 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩

abbrev nD : Nat := 1
abbrev τ : Topo := Topo.v7x

variable {F : FTy → Type} [FloatOps F]
-- ==== Proof.Body.lean ====
module

public import proofs.«01_k».proof.Proof.Gen.KernelIdeal.Skeleton
public import Idealize.ShloMosaic.Lib.Pointwise

/-! What the kernel computes for one batch element, as one function of the batch element's node ids, its
mask, and the four constant tables. -/

@[expose] public section

set_option maxRecDepth 16384

noncomputable section

open Idealize.ShloMosaic Idealize.ShloMosaic.TcCoe Idealize.SL.Sem

namespace Cert.KernelIdeal.Value

open Cert.KernelIdeal Cert.KernelIdeal.Gen

/-- One batch element's result block, from its nodes `nd` and mask `mk`, the selector `S`, the pair table `kb`,
    the same-value table `ve` and the diagonal row `kd`. -/
def slab (nd mk : Vec Ideal S1x256x20 .i32) (S : Vec Ideal S20x400 .bf16) (kb : Vec Ideal S400x400 .bf16)
    (ve : Vec Ideal S400x400 .f32) (kd : Vec Ideal S1x400 .f32) : FVec Ideal S1x256x256 .f32 :=
  k0_pay17 k0_pay12 k0_pay13 (k0_pay15 S nd mk) (k0_pay16 mk) kb ve kd

/-- The second batch element of a block is computed the same way. -/
theorem slab_second (nd mk : Vec Ideal S1x256x20 .i32) (S kb ve kd) :
    k0_pay23 (F := Ideal) k0_pay13 (k0_pay19 mk) (k0_pay20 S k0_pay12 nd mk) (k0_pay21 S k0_pay12 nd mk kb)
      (k0_pay22 S k0_pay12 nd mk ve) kd = slab nd mk S kb ve kd := rfl

/-- The third batch element of a block is computed the same way. -/
theorem slab_third (nd mk : Vec Ideal S1x256x20 .i32) (S kb ve kd) :
    k0_pay28 (F := Ideal) k0_pay13 (k0_pay25 mk) (k0_pay26 S k0_pay12 nd mk) (k0_pay27 S k0_pay12 nd mk)
      kb ve kd = slab nd mk S kb ve kd := rfl

/-- The fourth batch element of a block is computed the same way. -/
theorem slab_fourth (nd mk : Vec Ideal S1x256x20 .i32) (S kb ve kd) :
    k0_pay1 (F := Ideal) (k0_pay31 S k0_pay12 k0_pay13 (k0_pay29 mk) (k0_pay30 nd mk) kb ve kd)
      = slab nd mk S kb ve kd := rfl

end Cert.KernelIdeal.Value
-- ==== Proof.Words.lean ====
module

public import proofs.«01_k».proof.Proof.Gen.KernelIdeal.Skeleton
public import Idealize.ShloMosaic.Lib.Pointwise

/-! The constant tables the kernel builds once, read at an index: a flat column `j` of 400 stands for the position
`j / 20` and the node value `j % 20`. -/

@[expose] public section

set_option maxRecDepth 16384

noncomputable section

open Idealize.ShloMosaic Idealize.ShloMosaic.TcCoe Idealize.SL.Sem

namespace Cert.KernelIdeal.Value

open Cert.KernelIdeal Cert.KernelIdeal.Gen

/-- The position a flat column stands for. -/
def pos (j : Fin 400) : Fin 20 := ⟨(j : ℕ) / 20, by omega⟩
/-- The node value a flat column stands for. -/
def val (j : Fin 400) : Fin 20 := ⟨(j : ℕ) % 20, by omega⟩

/-- A comparison's bit, widened to a word and read as a number, is one or zero. -/
theorem toInt_setWidth_eq {w : ℕ} (a b : BitVec w) :
    (((BitVec.setWidth 32 (IntOp.cmpi .eq a b)).toInt : ℝ) : EReal) = if a = b then 1 else 0 := by
  by_cases h : a = b
  · simp [IntOp.cmpi, h]
  · rw [if_neg h, show IntOp.cmpi .eq a b = 0#1 by rw [IntOp.cmpi, beq_eq_false_iff_ne.2 h]; rfl]; simp

/-- The word the kernel computes for the remainder by twenty. -/
def remWord (n : ℕ) : BitVec 32 :=
  Scalar.select
    (IntOp.andi
      (IntOp.xori (IntOp.cmpi .slt (IntOp.remsi .vector (BitVec.ofNat 32 n) 20#32) 0#32) (Scalar.cmpi .slt 20#32 0#32))
      (IntOp.cmpi .ne (IntOp.remsi .vector (BitVec.ofNat 32 n) 20#32) 0#32))
    (IntOp.addi (IntOp.remsi .vector (BitVec.ofNat 32 n) 20#32) 20#32)
    (IntOp.remsi .vector (BitVec.ofNat 32 n) 20#32)

/-- The word the kernel computes for the quotient by twenty. -/
def quoWord (n : ℕ) : BitVec 32 :=
  Scalar.select
    (IntOp.andi
      (IntOp.cmpi .ne
        (IntOp.subi (BitVec.setWidth 32 (IntOp.cmpi .sgt (BitVec.ofNat 32 n) 0#32))
          (BitVec.setWidth 32 (IntOp.cmpi .slt (BitVec.ofNat 32 n) 0#32)))
        (Scalar.subi (Scalar.extui (Scalar.cmpi .sgt 20#32 0#32)) (Scalar.extui (Scalar.cmpi .slt 20#32 0#32))))
      (IntOp.cmpi .ne (IntOp.remsi .vector (BitVec.ofNat 32 n) 20#32) 0#32))
    (IntOp.subi (IntOp.divsi .vector (BitVec.ofNat 32 n) 20#32) 1#32)
    (IntOp.divsi .vector (BitVec.ofNat 32 n) 20#32)

theorem remWord_eq : ∀ j : Fin 400, remWord j = BitVec.ofNat 32 (val j) := by decide +kernel
theorem quoWord_eq : ∀ j : Fin 400, quoWord j = BitVec.ofNat 32 (pos j) := by decide +kernel

/-- Words of small numbers are equal exactly when the numbers are. -/
theorem ofNat_inj {n : ℕ} (hn : n ≤ 400) (a b : Fin n) : BitVec.ofNat 32 a = BitVec.ofNat 32 b ↔ a = b := by
  rw [BitVec.toNat_eq, BitVec.toNat_ofNat, BitVec.toNat_ofNat, Fin.ext_iff]
  have := a.isLt; have := b.isLt; omega

theorem ofNat_inj_small (a b : Fin 20) : BitVec.ofNat 32 a = BitVec.ofNat 32 b ↔ a = b := ofNat_inj (by omega) a b

theorem toInt_ofNat_small (a : Fin 20) : (BitVec.ofNat 32 a).toInt = ((a : ℕ) : ℤ) := by
  revert a; decide +kernel

/-- The value row: a flat column's node value, as a number. -/
theorem vidx_at (w : Fin 256) (j : Fin 400) : k0_pay12 (F := Ideal) (ix2 w j) = (((val j : ℕ) : ℝ) : EReal) := by
  pointwise [k0_pay12]
  change (((remWord j).toInt : ℝ) : EReal) = _
  rw [remWord_eq, toInt_ofNat_small]; simp

/-- The identity table over walks. -/
theorem eye_at (w u : Fin 256) : k0_pay13 (F := Ideal) (ix2 w u) = if w = u then (1 : EReal) else 0 := by
  pointwise [k0_pay13]
  exact (toInt_setWidth_eq _ _).trans (by simp only [ofNat_inj (n := 256) (by omega)])

/-- The selector: position `p` picks the flat columns standing for it. -/
theorem sel_at (p : Fin 20) (j : Fin 400) : k0_pay2 (F := Ideal) (ix2 p j) = if p = pos j then (1 : EReal) else 0 := by
  pointwise [k0_pay2]
  refine (toInt_setWidth_eq (BitVec.ofNat 32 p) (quoWord j)).trans ?_
  simp only [quoWord_eq, ofNat_inj_small]

theorem sel16_at (p : Fin 20) (j : Fin 400) : k0_pay3 (F := Ideal) (ix2 p j) = if p = pos j then (1 : EReal) else 0 := by
  pointwise [k0_pay3]
  exact sel_at p j

/-- The test "same node value" on two flat columns. -/
theorem same_at (i j : Fin 400) :
    k0_pay7 20#32 k0_pay5 k0_pay6 (ix2 i j) = BitVec.ofBool (decide (val i = val j)) := by
  pointwise [k0_pay7, k0_pay5, k0_pay6]
  change IntOp.cmpi .eq (remWord i) (remWord j) = _
  rw [remWord_eq, remWord_eq]
  simp only [IntOp.cmpi, beq_eq_decide, ofNat_inj_small]

/-- The same-value table. -/
theorem veq_at (i j : Fin 400) :
    k0_pay9 (F := Ideal) 20#32 k0_pay5 k0_pay6 (ix2 i j) = if val i = val j then (1 : EReal) else 0 := by
  pointwise [k0_pay9, same_at]
  by_cases h : val i = val j
  · rw [decide_eq_true h, if_pos h]; exact (toInt_setWidth_eq 0#32 0#32).trans (if_pos rfl)
  · rw [decide_eq_false h, if_neg h]; exact (toInt_setWidth_eq 0#32 1#32).trans (if_neg (by decide))

/-- The pair table before masking: the kernel matrix at the two positions. -/
theorem rep_at (k : Vec Ideal S20x20 .f32) (i j : Fin 400) :
    k0_pay4 k (ix2 i j) = k (ix2 (pos i) (pos j)) := by
  pointwise [k0_pay4, sel_at]
  simp only [mul_ite, mul_one, mul_zero, ite_mul, one_mul, zero_mul, Finset.sum_ite_eq', Finset.mem_univ, if_true]

/-- The pair table: the kernel matrix at the two positions where the node values agree. -/
theorem kbig_at (k : Vec Ideal S20x20 .f32) (i j : Fin 400) :
    k0_pay8 (k0_pay4 k) 20#32 k0_pay5 k0_pay6 (ix2 i j) = if val i = val j then k (ix2 (pos i) (pos j)) else (0 : EReal) := by
  pointwise [k0_pay8, same_at, rep_at]

/-- The diagonal row: the kernel matrix's diagonal at the column's position. -/
theorem kdrep_at (k : Vec Ideal S20x20 .f32) (j : Fin 400) :
    k0_pay11 k k0_pay2 k0_pay10 (ix2 0 j) = k (ix2 (pos j) (pos j)) := by
  pointwise [k0_pay11, k0_pay10, sel_at]
  have h : ∀ x y : Fin 20, (FloatOps.sitofp (F := Ideal) .f32
      (BitVec.setWidth 32 (IntOp.cmpi .eq (BitVec.ofNat 32 (x : ℕ)) (BitVec.ofNat 32 (y : ℕ)))) : EReal)
        = if x = y then 1 else 0 := fun x y => (toInt_setWidth_eq _ _).trans (by simp only [ofNat_inj_small])
  simp only [h, mul_ite, mul_one, mul_zero, Finset.sum_ite_eq', Finset.mem_univ, if_true]

end Cert.KernelIdeal.Value
-- ==== Proof.Algebra.lean ====
module

public import proofs.«01_k».proof.Proof.Words

/-! Sums over the 400 flat columns as sums over positions and node values, and moving a real factor through sums of
extended reals. -/

@[expose] public section

noncomputable section

open Idealize.ShloMosaic

namespace Cert.KernelIdeal.Value

/-- A sum over the flat columns is a sum over the positions and the node values. -/
theorem sum_flat (f : Fin 20 → Fin 20 → EReal) : ∑ j : Fin 400, f (pos j) (val j) = ∑ p, ∑ v, f p v := by
  rw [← Fintype.sum_prod_type' f]
  exact Fintype.sum_equiv (finProdFinEquiv (m := 20) (n := 20)).symm _ _ fun _ => rfl

/-- A sum of reals, as an extended real. -/
theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A nonnegative real factor comes out of a sum of extended reals. -/
theorem sum_mul_real {ι : Type} (s : Finset ι) (f : ι → EReal) {r : ℝ} (hr : 0 ≤ r) :
    ∑ i ∈ s, f i * (r : EReal) = (∑ i ∈ s, f i) * (r : EReal) := by
  classical
  induction s using Finset.induction_on with
  | empty => simp
  | insert a s ha ih =>
    rw [Finset.sum_insert ha, Finset.sum_insert ha, ih,
      EReal.right_distrib_of_nonneg_of_ne_top (EReal.coe_nonneg.2 hr) (EReal.coe_ne_top r)]

/-- The kernel's one product over all 400 columns of the normalised one-hot rows is the walks' co-occurrence, times both
    factors. -/
theorem sum_pairs (h g : Fin 20 → Fin 20 → EReal) (k : Fin 20 → Fin 20 → EReal) {a c : ℝ} (ha : 0 ≤ a) (hc : 0 ≤ c) :
    ∑ i : Fin 400, (∑ j : Fin 400, h (pos j) (val j) * (a : EReal) * (if val j = val i then k (pos j) (pos i) else 0))
        * (g (pos i) (val i) * (c : EReal))
      = (∑ q, ∑ v, (∑ p, k p q * h p v) * g q v) * ((a * c : ℝ) : EReal) := by
  have inner : ∀ i : Fin 400, (∑ j : Fin 400, h (pos j) (val j) * (a : EReal) * (if val j = val i then k (pos j) (pos i) else 0))
      = (∑ p, k p (pos i) * h p (val i)) * (a : EReal) := fun i => by
    rw [sum_flat fun p v => h p v * (a : EReal) * (if v = val i then k p (pos i) else 0), ← sum_mul_real _ _ ha]
    refine Finset.sum_congr rfl fun p _ => ?_
    simp only [mul_ite, mul_zero, Finset.sum_ite_eq', Finset.mem_univ, if_true]
    rw [mul_right_comm, mul_comm (k p (pos i))]
  simp only [inner]
  rw [sum_flat fun q v => (∑ p, k p q * h p v) * (a : EReal) * (g q v * (c : EReal)),
    ← sum_mul_real _ _ (mul_nonneg ha hc)]
  refine Finset.sum_congr rfl fun q _ => ?_
  rw [← sum_mul_real _ _ (mul_nonneg ha hc)]
  refine Finset.sum_congr rfl fun v _ => ?_
  rw [EReal.coe_mul, mul_mul_mul_comm]

/-- The kernel's singleton contribution over all 400 columns. -/
theorem sum_singles {ι : Type} [Fintype ι] (h : ι → Fin 20 → Fin 20 → EReal) (k : Fin 20 → Fin 20 → EReal) (w : ι) :
    ∑ i : Fin 400, h w (pos i) (val i)
        * (if (∑ j : Fin 400, (∑ x, h x (pos j) (val j)) * (if val j = val i then 1 else 0)) = (1 : EReal) then k (pos i) (pos i) else 0)
      = ∑ p, ∑ v, h w p v * ((if (∑ x, ∑ q, h x q v) = (1 : EReal) then (1 : EReal) else 0) * k p p) := by
  have inner : ∀ i : Fin 400, (∑ j : Fin 400, (∑ x, h x (pos j) (val j)) * (if val j = val i then (1 : EReal) else 0))
      = ∑ x, ∑ q, h x q (val i) := fun i => by
    rw [sum_flat fun p v => (∑ x, h x p v) * (if v = val i then (1 : EReal) else 0), Finset.sum_comm (s := Finset.univ (α := ι))]
    refine Finset.sum_congr rfl fun p _ => ?_
    simp only [mul_ite, mul_one, mul_zero, Finset.sum_ite_eq', Finset.mem_univ, if_true]
  simp only [inner]
  rw [sum_flat fun p v => h w p v * (if (∑ x, ∑ q, h x q v) = (1 : EReal) then k p p else 0)]
  refine Finset.sum_congr rfl fun p _ => Finset.sum_congr rfl fun v _ => ?_
  rw [ite_mul, one_mul, zero_mul]

/-- What remains after the sums: the diagonal's correction and the two divisions against one. -/
theorem balance {n : ℕ} (w u : Fin n) (x y : EReal) (l : Fin n → ℝ) (hl : ∀ w, 0 < l w) :
    x * ((1 / l w * (1 / l u) : ℝ) : EReal) - y * ((1 / l w : ℝ) : EReal) * ((1 / l w : ℝ) : EReal) * (if w = u then 1 else 0)
      = Ideal.div (x + if w = u then -y else 0) ((l w : EReal) * (l u : EReal)) := by
  have hp : (l w * l u : ℝ) ≠ 0 := (mul_pos (hl w) (hl u)).ne'
  rw [← EReal.coe_mul, Ideal.div_coe hp, show (1 / (l w * l u) : ℝ) = 1 / l w * (1 / l u) by rw [one_div_mul_one_div]]
  by_cases h : w = u
  · subst h
    have h0 : 0 ≤ 1 / l w * (1 / l w) := mul_nonneg (one_div_nonneg.2 (hl w).le) (one_div_nonneg.2 (hl w).le)
    rw [if_pos rfl, if_pos rfl, mul_one, mul_assoc, ← EReal.coe_mul,
      EReal.right_distrib_of_nonneg_of_ne_top (EReal.coe_nonneg.2 h0) (EReal.coe_ne_top _), sub_eq_add_neg, EReal.neg_mul]
  · rw [if_neg h, if_neg h, mul_zero, sub_zero, add_zero]

/-- The guard the walk lengths carry. -/
def eps : ℝ := 11258999 / 2 ^ 50

theorem eps_pos : 0 < eps := by unfold eps; positivity

theorem guard_eq : Ideal.ofBits .f32 841731191#32 = ((eps : ℝ) : EReal) := by
  unfold eps
  simp [Ideal.ofBits, Ideal.ieee]
  norm_num
  rw [← EReal.coe_mul]
  norm_num

end Cert.KernelIdeal.Value
-- ==== Proof.Array.lean ====
module

public import proofs.«01_k».proof.Proof.Gen.KernelIdeal.Value
public import proofs.«01_k».proof.Proof.Body
public import proofs.«01_k».proof.Proof.Words
public import Idealize.ShloMosaic.Lib.Pipeline.ValueKit
public import Idealize.ShloMosaic.Lib.Pipeline.ReadBack

/-! What the kernel's result array holds: batch element `b` of it is the block function at batch element `b` of
the nodes and masks, with the tables built from the kernel matrix. -/

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen

variable (m : (ℓ : Loc nD τ sig) → Buf (Elt Ideal) ℓ)

/-- The pair table built from the kernel matrix. -/
def pairs (k : Vec Ideal S20x20 .f32) : Vec Ideal S400x400 .bf16 := k0_pay8 (k0_pay4 k) 20#32 k0_pay5 k0_pay6
/-- The same-value table. -/
def same : Vec Ideal S400x400 .f32 := k0_pay9 (F := Ideal) 20#32 k0_pay5 k0_pay6
/-- The diagonal row built from the kernel matrix. -/
def diag (k : Vec Ideal S20x20 .f32) : Vec Ideal S1x400 .f32 := k0_pay11 k k0_pay2 k0_pay10

/-- Where each window's block sits, at every grid point. -/
theorem idx : ∀ t : Fin cfg0.N, win0_0.index t = ![t.val, 0, 0] ∧ win0_1.index t = ![t.val, 0, 0]
    ∧ win0_2.index t = ![0, 0] ∧ win0_3.index t = ![t.val, 0, 0] :=
  (by decide +kernel : ∀ t : Fin grid0.N, _)

/-- What point 0 leaves in the carried tables, and with it what every point carries. -/
theorem built (c : Dev nD) (t : Fin cfg0.N) (h : t.val % 4 = 0) :
    (outsAt0 m c t.val t.isLt).2.1 = k0_pay3 (F := Ideal)
    ∧ (outsAt0 m c t.val t.isLt).2.2.1 = pairs (m ((c : Thread nD τ).loc main_arg2))
    ∧ (outsAt0 m c t.val t.isLt).2.2.2.1 = same
    ∧ (outsAt0 m c t.val t.isLt).2.2.2.2 = diag (m ((c : Thread nD τ).loc main_arg2)) := by
  have e : iblk m c 2 t = m ((c : Thread nD τ).loc main_arg2) := by blk_ext! [iblk, V, idx t]
  rw [outsAt0_A m c t h]
  refine ⟨?_, ?_, ?_, ?_⟩
  all_goals
    frame_open
    simp (disch := decide) only [↓ View.readCov_skip, ↓ View.readCov_cons_toLoadRect, ↓ View.readCov_fill]
    frame_out
  all_goals simp only [pairs, same, diag, ← e]

/-- Every point leaves the tables point 0 built. -/
theorem carried (c : Dev nD) (n : ℕ) (h : n < cfg0.N) :
    (outsAt0 m c n h).2.1 = k0_pay3 (F := Ideal)
    ∧ (outsAt0 m c n h).2.2.1 = pairs (m ((c : Thread nD τ).loc main_arg2))
    ∧ (outsAt0 m c n h).2.2.2.1 = same
    ∧ (outsAt0 m c n h).2.2.2.2 = diag (m ((c : Thread nD τ).loc main_arg2)) := by
  induction n with
  | zero => exact built m c ⟨0, h⟩ rfl
  | succ n ih =>
    have hn : n < cfg0.N := Nat.lt_of_succ_lt h
    have h4 : ¬ (n + 1) % 4 = 0 := by
      have := lt_of_lt_of_eq h (show cfg0.N = 4 from N_0); omega
    have e := outsAt0_B m c ⟨n + 1, h⟩ h4
    have := ih hn
    rw [e]
    exact this

/-- Batch element `b` of an array of node ids or masks, as a block of one. -/
def row (N : Vec Ideal S16x256x20 .i32) (b : Fin 16) : Vec Ideal S1x256x20 .i32 := fun i => N (ix3 b (i 1) (i 2))

/-- The kernel's result as a function of its arguments. -/
def result (N M : Vec Ideal S16x256x20 .i32) (k : Vec Ideal S20x20 .f32) : FVec Ideal S16x256x256 .f32 := fun i =>
  slab (row N (i 0)) (row M (i 0)) (k0_pay3 (F := Ideal)) (pairs k) same (diag k) (ix3 0 (i 1) (i 2))

set_option maxHeartbeats 1600000 in
/-- At every point the output block holds the result's four batch elements of that block. -/
theorem point (c : Dev nD) (t : Fin cfg0.N) (y : S4x256x256.Idx) :
    (outsAt0 m c t.val t.isLt).1 y = result (m ((c : Thread nD τ).loc main_arg0)) (m ((c : Thread nD τ).loc main_arg1))
      (m ((c : Thread nD τ).loc main_arg2)) (((cfg0.win 3).blk t).view.emb y) := by
  unfold result
  by_cases h : t.val % 4 = 0
  · have e : iblk m c 2 t = m ((c : Thread nD τ).loc main_arg2) := by blk_ext! [iblk, V, idx t]
    rw [outsAt0_A m c t h]
    frame_open
    simp (disch := decide) only [↓ View.readCov_skip, ↓ View.readCov_cons_toLoadRect, ↓ View.readCov_fill]
    frame_out
    simp only [slab_second, slab_third, slab_fourth, pairs, same, diag, ← e]
    canon_tiles x hx
    all_goals refine congr (congrArg₂ (fun a b => slab a b _ _ _ _) (funext fun i => ?_) (funext fun i => ?_)) ?_
    all_goals (try unfold row); pointwise; blk_ext [iblk, V, idx t]
  · obtain ⟨e0, e1, e2, e3⟩ := carried m c (t.val - 1) (Nat.lt_of_le_of_lt (Nat.sub_le _ _) t.isLt)
    rw [outsAt0_B m c t h]
    frame_open
    simp (disch := decide) only [↓ View.readCov_skip, ↓ View.readCov_cons_toLoadRect, ↓ View.readCov_fill]
    frame_out
    simp only [read_unread_whole, e0, e1, e2, e3, slab_second, slab_third, slab_fourth]
    canon_tiles x hx
    all_goals refine congr (congrArg₂ (fun a b => slab a b _ _ _ _) (funext fun i => ?_) (funext fun i => ?_)) ?_
    all_goals (try unfold row); pointwise; blk_ext [iblk, V, idx t]

/-- The kernel's result array after the run. -/
theorem final_result (c : Dev nD) : (dats m 0 c).arrAt 3 cfg0.N
    = result (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  exact point m c t y

end Cert.KernelIdeal.Value
-- ==== Proof.Closed.lean ====
module

public import proofs.«01_k».proof.Proof.Body
public import proofs.«01_k».proof.Proof.Algebra
public import proofs.«01_k».proof.Proof.Array

/-! One batch element's block in closed form, when its node ids lie below twenty and its mask is zero or one. -/

@[expose] public section

set_option maxRecDepth 16384

noncomputable section

open Idealize.ShloMosaic Idealize.ShloMosaic.TcCoe Idealize.SL.Sem

namespace Cert.KernelIdeal.Value

open Cert.KernelIdeal Cert.KernelIdeal.Gen

variable (nd mk : Vec Ideal S1x256x20 .i32) (k : FVec Ideal S20x20 .f32)

/-- 1 where walk `w` has node `v` at position `p` and the position is not masked. -/
def occ (w : Fin 256) (p v : Fin 20) : EReal :=
  if mk (ix3 0 w p) ≠ 0#32 ∧ nd (ix3 0 w p) = BitVec.ofNat 32 v.val then 1 else 0

/-- The guarded length of walk `w`. -/
def len (w : Fin 256) : ℝ := ((Finset.univ.filter fun p : Fin 20 => mk (ix3 0 w p) ≠ 0#32).card : ℝ) + eps

theorem len_pos (w : Fin 256) : 0 < len mk w := add_pos_of_nonneg_of_pos (Nat.cast_nonneg _) eps_pos

/-- The word one position's code is computed as, compared with a node value: equal exactly when the position is
    unmasked and holds that value. -/
theorem code_eq (n m : BitVec 32) (hn : n.toNat < 20) (hm : m = 0#32 ∨ m = 1#32) (v : Fin 20) :
    ((((IntOp.addi n (IntOp.muli 32#32 (IntOp.subi 1#32 m))).toInt : ℝ) : EReal) = ((v.val : ℝ) : EReal))
      ↔ (m ≠ 0#32 ∧ n = BitVec.ofNat 32 v.val) := by
  have hv := v.isLt
  have cast : ∀ z : BitVec 32, (((z.toInt : ℝ) : EReal) = ((v.val : ℝ) : EReal)) ↔ z.toInt = (v.val : Int) := fun z => by
    rw [EReal.coe_eq_coe_iff]
    exact_mod_cast Iff.rfl
  rw [cast]
  rcases hm with rfl | rfl
  · refine ⟨fun h => ?_, fun h => absurd rfl h.1⟩
    have e : (IntOp.addi n (IntOp.muli 32#32 (IntOp.subi 1#32 0#32))).toNat = n.toNat + 32 := by
      show (n + 32#32 * (1#32 - 0#32)).toNat = _
      rw [BitVec.toNat_add]
      show (n.toNat + 32) % 2 ^ 32 = _
      omega
    rw [BitVec.toInt_eq_toNat_of_lt (by omega), e] at h
    omega
  · have e : IntOp.addi n (IntOp.muli 32#32 (IntOp.subi 1#32 1#32)) = n := by
      show n + 32#32 * (1#32 - 1#32) = n
      rw [show (32#32 * (1#32 - 1#32) : BitVec 32) = 0#32 from rfl, BitVec.add_zero]
    rw [e, BitVec.toInt_eq_toNat_of_lt (by omega), BitVec.toNat_eq, BitVec.toNat_ofNat]
    refine ⟨fun h => ⟨by decide, by omega⟩, fun h => by omega⟩

variable (hn : ∀ w p, (nd (ix3 0 w p)).toNat < 20) (hm : ∀ w p, mk (ix3 0 w p) = 0#32 ∨ mk (ix3 0 w p) = 1#32)

include hn hm in
/-- The code spread over the flat columns meets a column's node value exactly at an occurrence. -/
theorem ind_eq (w : Fin 256) (j : Fin 400) :
    (if (∑ p : Fin 20, FloatOps.sitofp (F := Ideal) .bf16 (IntOp.addi (nd (ix3 0 w p)) (IntOp.muli 32#32 (IntOp.subi 1#32 (mk (ix3 0 w p)))))
        * k0_pay3 (F := Ideal) (ix2 p j)) = k0_pay12 (F := Ideal) (ix2 w j) then (1 : EReal) else 0) = occ nd mk w (pos j) (val j) := by
  have e : (∑ p : Fin 20, FloatOps.sitofp (F := Ideal) .bf16 (IntOp.addi (nd (ix3 0 w p)) (IntOp.muli 32#32 (IntOp.subi 1#32 (mk (ix3 0 w p)))))
        * k0_pay3 (F := Ideal) (ix2 p j) : EReal)
      = (((IntOp.addi (nd (ix3 0 w (pos j))) (IntOp.muli 32#32 (IntOp.subi 1#32 (mk (ix3 0 w (pos j)))))).toInt : ℝ) : EReal) := by
    rw [Finset.sum_eq_single (pos j)]
    · rw [sel16_at, if_pos rfl]; exact mul_one _
    · intro p _ hp
      rw [sel16_at, if_neg hp]; exact mul_zero _
    · exact fun h => absurd (Finset.mem_univ _) h
  rw [e, vidx_at]
  unfold occ
  exact if_congr (code_eq _ _ (hn _ _) (hm _ _) _) rfl rfl

include hm in
/-- The kernel's walk length, guarded. -/
theorem length_eq (w : Fin 256) :
    ((∑ p : Fin 20, FloatOps.sitofp (F := Ideal) .f32 (mk (ix3 0 w p)) : EReal) + Ideal.ofBits .f32 841731191#32) = ((len mk w : ℝ) : EReal) := by
  have e : ∀ p : Fin 20, (FloatOps.sitofp (F := Ideal) .f32 (mk (ix3 0 w p)) : EReal) = ((if mk (ix3 0 w p) ≠ 0#32 then (1 : ℝ) else 0 : ℝ) : EReal) := fun p => by
    show (((mk (ix3 0 w p)).toInt : ℝ) : EReal) = _
    rcases hm w p with h | h <;> rw [h] <;> simp
  rw [Finset.sum_congr rfl fun p _ => e p, guard_eq, coe_sum, ← EReal.coe_add, Finset.sum_boole]
  rfl

set_option maxHeartbeats 1600000 in
include hn hm in
/-- One batch element's block: the co-occurrence and the singleton contribution, each divided by both guarded lengths. -/
theorem slab_at (w u : Fin 256) :
    slab nd mk (k0_pay3 (F := Ideal)) (pairs k) same (diag k) (ix3 0 w u)
      = Ideal.div ((∑ q, ∑ v, (∑ p, k (ix2 p q) * occ nd mk w p v) * occ nd mk u q v)
          + if w = u then -(∑ p, ∑ v, occ nd mk w p v * ((if (∑ x : Fin 256, ∑ q, occ nd mk x q v) = (1 : EReal) then (1 : EReal) else 0) * k (ix2 p p))) else 0)
        (((len mk w : ℝ) : EReal) * ((len mk u : ℝ) : EReal)) := by
  have hr : ∀ w, Ideal.div 1 ((len mk w : ℝ) : EReal) = ((1 / len mk w : ℝ) : EReal) := fun w => by
    rw [Ideal.div_coe (len_pos mk w).ne', one_mul]
  rw [← balance w u _ _ (len mk) (len_pos mk), ← sum_pairs (occ nd mk w) (occ nd mk u) (fun p q => k (ix2 p q))
    (one_div_nonneg.2 (len_pos mk w).le) (one_div_nonneg.2 (len_pos mk u).le), ← sum_singles (occ nd mk) (fun p q => k (ix2 p q)) w]
  pointwise [slab, k0_pay17, k0_pay15, k0_pay16, k0_pay14]
  simp only [ind_eq nd mk hn hm, length_eq mk hm, hr, eye_at, pairs, same, diag, kbig_at, veq_at, kdrep_at]

end Cert.KernelIdeal.Value
-- ==== Proof.Ref.lean ====
module

public import proofs.«01_k».proof.Proof.Gen.ReferenceIdeal.Run
public import Idealize.ShloMosaic.Lib.Pointwise
public import Idealize.ShloMosaic.Lib.IndicatorCount
public import Idealize.ShloMosaic.Lib.Routing.OpsPair

/-!
What the reference computes, entry by entry. Its one composed term is cut into named pieces (the one-hot table, the
walks' co-occurrence, the singleton nodes, the diagonal of the kernel matrix, the singleton contribution, the guarded
walk lengths), each piece is read at an index, and the entry `(b, w, u)` of the result is put together from them.
-/

@[expose] public section

set_option maxRecDepth 16384

noncomputable section

open Idealize.ShloMosaic Idealize.ShloMosaic.TcCoe Idealize.SL.Sem

namespace Cert.ReferenceIdeal.Value

open Cert.ReferenceIdeal Cert.ReferenceIdeal.Gen

section Pieces

variable (N M : IVec S16x256x20 32) (k : FVec Ideal S20x20 .f32)

/-- Entry `(b, w, p, v)`: 1 where walk `w` of graph `b` has node `v` at position `p` and the position is not masked. -/
def hot : FVec Ideal S16x256x20x20 .f32 :=
  mulf (uitofp .f32 (cmpi .eq (broadcastInDim S16x256x20x20 ![0, 1, 2, 3] bcast_S16x256x20x1_S16x256x20x20_0_1_2_3 (broadcastInDim S16x256x20x1 ![0, 1, 2] bcast_S16x256x20_S16x256x20x1_0_1_2 N)) (broadcastInDim S16x256x20x20 ![0, 1, 2, 3] bcast_S1x1x1x20_S16x256x20x20_0_1_2_3 (iotaInDim S1x1x1x20 32 3)))) (broadcastInDim S16x256x20x20 ![0, 1, 2, 3] bcast_S16x256x20x1_S16x256x20x20_0_1_2_3 (uitofp .f32 (broadcastInDim S16x256x20x1 ![0, 1, 2] bcast_S16x256x20_S16x256x20x1_0_1_2 (id (cmpi .ne M (broadcastInDim S16x256x20 ![] bcast_S_S16x256x20 (constantI S_ 32 0#32)))))))

/-- Entry `(b, v)`: 1 where node `v` occurs exactly once over all the walks of graph `b`. -/
def once : FVec Ideal S16x20 .f32 :=
  uitofp .f32 (cmpf .oeq (Host.reduceAdd (hot N M) (constant S_ .f32 0x00000000#32) reducesTo_S16x256x20x20_S16x20_d1_2 h_S_ : (⟨S16x20, .f32⟩ : BufTy).Contents (Elt Ideal)) (broadcastInDim S16x20 ![] bcast_S_S16x20 (constant S_ .f32 0x3F800000#32)))

/-- The index pairs `(p, p)` of the kernel matrix. -/
def places : IVec S20x2 32 :=
  concatenate S20x2 1 [⟨S20x1, (broadcastInDim S20x1 ![0] bcast_S20_S20x1_0 (select (cmpi .slt (iotaInDim S20 32 0) (broadcastInDim S20 ![] bcast_S_S20 (constantI S_ 32 0#32))) (addi (iotaInDim S20 32 0) (broadcastInDim S20 ![] bcast_S_S20 (constantI S_ 32 20#32))) (iotaInDim S20 32 0)))⟩, ⟨S20x1, (broadcastInDim S20x1 ![0] bcast_S20_S20x1_0 (select (cmpi .slt (iotaInDim S20 32 0) (broadcastInDim S20 ![] bcast_S_S20 (constantI S_ 32 0#32))) (addi (iotaInDim S20 32 0) (broadcastInDim S20 ![] bcast_S_S20 (constantI S_ 32 20#32))) (iotaInDim S20 32 0)))⟩] concatenates_S20x1_S20x1_S20x2_d1

/-- The index pairs `(w, w)` of a graph's result. -/
def corners : IVec S256x2 32 :=
  concatenate S256x2 1 [⟨S256x1, (broadcastInDim S256x1 ![0] bcast_S256_S256x1_0 (select (cmpi .slt (iotaInDim S256 32 0) (broadcastInDim S256 ![] bcast_S_S256 (constantI S_ 32 0#32))) (addi (iotaInDim S256 32 0) (broadcastInDim S256 ![] bcast_S_S256 (constantI S_ 32 256#32))) (iotaInDim S256 32 0)))⟩, ⟨S256x1, (broadcastInDim S256x1 ![0] bcast_S256_S256x1_0 (select (cmpi .slt (iotaInDim S256 32 0) (broadcastInDim S256 ![] bcast_S_S256 (constantI S_ 32 0#32))) (addi (iotaInDim S256 32 0) (broadcastInDim S256 ![] bcast_S_S256 (constantI S_ 32 256#32))) (iotaInDim S256 32 0)))⟩] concatenates_S256x1_S256x1_S256x2_d1

/-- The diagonal of the kernel matrix. -/
def diagK : FVec Ideal S20 .f32 :=
  Host.gather gather_S20x20_S20x2_S20_n_01_n_n_01_1_11 k places

/-- The walks' co-occurrence, weighted by the kernel matrix. -/
def cooc : FVec Ideal S16x256x256 .f32 :=
  Host.dotGeneral dot_S16x256x20x20_S16x256x20x20_S16x256x256_23_23_1_1_0_0 none (transpose S16x256x20x20 [1, 2, 0, 3] (Host.dotGeneral dot_S20x20_S16x256x20x20_S20x16x256x20_0_2_1_013_n_n none k (hot N M)) transposes_S20x16x256x20_S16x256x20x20_1_2_0_3) (hot N M)

/-- What a walk's singleton nodes add to its own co-occurrence. -/
def contrib : FVec Ideal S16x256 .f32 :=
  Host.dotGeneral dot_S16x256x20x20_S16x20x20_S16x256_23_12_1_n_0_0 none (hot N M) (mulf (broadcastInDim S16x20x20 ![0, 1, 2] bcast_S16x1x20_S16x20x20_0_1_2 (broadcastInDim S16x1x20 ![0, 2] bcast_S16x20_S16x1x20_0_2 (once N M))) (broadcastInDim S16x20x20 ![0, 1, 2] bcast_S1x20x1_S16x20x20_0_1_2 (broadcastInDim S1x20x1 ![1] bcast_S20_S1x20x1_1 (diagK k))))

/-- The walk lengths. -/
def lengths : FVec Ideal S16x256 .f32 :=
  sitofp .f32 (Host.reduce IntOp.addi (extui 32 (id (cmpi .ne M (broadcastInDim S16x256x20 ![] bcast_S_S16x256x20 (constantI S_ 32 0#32)))) natLt_1_32) (constantI S_ 32 0#32) reducesTo_S16x256x20_S16x256_d2 h_S_)

/-- The walk lengths, plus the guard. -/
def guarded : FVec Ideal S16x256 .f32 :=
  addf (lengths M) (broadcastInDim S16x256 ![] bcast_S_S16x256 (constant S_ .f32 0x322BCC77#32))

/-- The co-occurrence with every walk's singleton contribution taken off the diagonal. -/
def joined : FVec Ideal S16x256x256 .f32 :=
  Host.scatterAdd scatter_S16x256x256_S256x2_S16x256_0_12_12_1 (cooc N M k) corners (Host.negf (contrib N M k))

/-- The result. -/
def whole : FVec Ideal S16x256x256 .f32 :=
  Host.divf (joined N M k) (mulf (broadcastInDim S16x256x256 ![0, 1, 2] bcast_S16x256x1_S16x256x256_0_1_2 (broadcastInDim S16x256x1 ![0, 1] bcast_S16x256_S16x256x1_0_1 (guarded M))) (broadcastInDim S16x256x256 ![0, 1, 2] bcast_S16x1x256_S16x256x256_0_1_2 (broadcastInDim S16x1x256 ![0, 2] bcast_S16x256_S16x1x256_0_2 (guarded M))))

variable (b : Fin 16) (w u : Fin 256) (p v : Fin 20)

/-- A comparison's bit, read as a real number. -/
theorem bit_eq {n : ℕ} (x y : BitVec n) : (FloatOps.uitofp FTy.f32 (IntOp.cmpi .eq x y) : Ideal .f32) = if x = y then (1 : EReal) else 0 := by
  show (((IntOp.cmpi .eq x y).toNat : ℝ) : EReal) = _
  by_cases h : x = y <;> simp [IntOp.cmpi, h]

theorem bit_ne {n : ℕ} (x y : BitVec n) : (FloatOps.uitofp FTy.f32 (IntOp.cmpi .ne x y) : Ideal .f32) = if x ≠ y then (1 : EReal) else 0 := by
  show (((IntOp.cmpi .ne x y).toNat : ℝ) : EReal) = _
  by_cases h : x = y <;> simp [IntOp.cmpi, h]

theorem hot_at : hot N M (ix4 b w p v) = if M (ix3 b w p) ≠ 0#32 ∧ N (ix3 b w p) = BitVec.ofNat 32 v.val then (1 : EReal) else 0 := by
  pointwise [hot]
  have e := bit_ne (M (ix3 b w p)) 0#32
  have f := bit_eq (N (ix3 b w p)) (BitVec.ofNat 32 v.val)
  refine (congrArg₂ (· * ·) f e).trans ?_
  by_cases h : M (ix3 b w p) ≠ 0#32 <;> by_cases h' : N (ix3 b w p) = BitVec.ofNat 32 v.val <;> simp [h, h']

/-- Summing over the walks and their positions. -/
theorem sum_walks (x : FVec Ideal S16x256x20x20 .f32) :
    Ideal.hostReduceAdd reducesTo_S16x256x20x20_S16x20_d1_2 x 0 (ix2 b v) = ∑ w : Fin 256, ∑ p : Fin 20, x (ix4 b w p v) := by
  have hd : ∀ i : S16x256x20x20.Idx, reducesTo_S16x256x20x20_S16x20_d1_2.drop i = ix2 b v ↔ i 0 = b ∧ i 3 = v := fun i =>
    ⟨fun h => ⟨Fin.ext (congrArg Fin.val (congrFun h 0)), Fin.ext (congrArg Fin.val (congrFun h 1))⟩, fun h => by
      funext a
      match a with
      | ⟨0, _⟩ => exact Fin.ext (congrArg Fin.val h.1)
      | ⟨1, _⟩ => exact Fin.ext (congrArg Fin.val h.2)⟩
  have back : ∀ i : S16x256x20x20.Idx, i 0 = b ∧ i 3 = v → ix4 b (i 1) (i 2) v = i := fun i h => by
    funext a
    match a with
    | ⟨0, _⟩ => exact h.1.symm
    | ⟨1, _⟩ => rfl
    | ⟨2, _⟩ => rfl
    | ⟨3, _⟩ => exact h.2.symm
  refine (zero_add _).trans ?_
  rw [← Fintype.sum_prod_type' (fun (w : Fin 256) (p : Fin 20) => x (ix4 b w p v))]
  exact Finset.sum_bij' (fun i _ => ((i 1, i 2) : Fin 256 × Fin 20)) (fun q _ => ix4 b q.1 q.2 v) (fun _ _ => Finset.mem_univ _)
    (fun q _ => Finset.mem_filter.2 ⟨Finset.mem_univ _, (hd _).2 ⟨rfl, rfl⟩⟩)
    (fun i hi => back i ((hd i).1 (Finset.mem_filter.1 hi).2)) (fun _ _ => rfl)
    (fun i hi => congrArg x (back i ((hd i).1 (Finset.mem_filter.1 hi).2)).symm)

theorem once_at : once N M (ix2 b v) = if (∑ w, ∑ p, hot N M (ix4 b w p v)) = (1 : EReal) then (1 : EReal) else 0 := by
  pointwise [once]
  have e : Ideal.hostReduceAdd reducesTo_S16x256x20x20_S16x20_d1_2 (hot N M) 0 (ix2 b v) = ∑ w, ∑ p, hot N M (ix4 b w p v) :=
    sum_walks b v _
  rw [e]
  show (((BitVec.ofBool _).toNat : ℝ) : EReal) = _
  by_cases h : ∑ w, ∑ p, hot N M (ix4 b w p v) = 1 <;> simp [h]

theorem places_at (e : Fin 2) : places (ix2 p e) = BitVec.ofNat 32 p.val := by
  have h := Routing.wrap_of_lt (BitVec.ofNat 32 p.val) (IntOp.addi (BitVec.ofNat 32 p.val) 20#32)
    (by rw [BitVec.toNat_ofNat]; have := p.isLt; omega)
  fin_cases e
  · pointwise [places]
    exact h
  · pointwise [places]
    exact h

theorem corners_at (e : Fin 2) : corners (ix2 w e) = BitVec.ofNat 32 w.val := by
  have h := Routing.wrap_of_lt (BitVec.ofNat 32 w.val) (IntOp.addi (BitVec.ofNat 32 w.val) 256#32)
    (by rw [BitVec.toNat_ofNat]; have := w.isLt; omega)
  fin_cases e
  · pointwise [corners]
    exact h
  · pointwise [corners]
    exact h

theorem toInt_small {n : ℕ} (h : n ≤ 256) : (BitVec.ofNat 32 n).toInt = n := by
  rw [BitVec.toInt_eq_toNat_of_lt (by rw [BitVec.toNat_ofNat]; omega), BitVec.toNat_ofNat]
  omega

theorem diagK_at : diagK k (ix1 p) = k (ix2 p p) := by
  refine congrArg k (funext fun a => Fin.ext ?_)
  have hp := p.isLt
  match a with
  | ⟨0, _⟩ =>
    show min (places (ix2 p (0 : Fin 2))).toInt.toNat 19 + 0 + 0 = p.val
    rw [places_at, toInt_small (by omega)]; omega
  | ⟨1, _⟩ =>
    show min (places (ix2 p (1 : Fin 2))).toInt.toNat 19 + 0 + 0 = p.val
    rw [places_at, toInt_small (by omega)]; omega

theorem cooc_at : cooc N M k (ix3 b w u) = ∑ q : Fin 20, ∑ v : Fin 20, (∑ p : Fin 20, k (ix2 p q) * hot N M (ix4 b w p v)) * hot N M (ix4 b u q v) := by
  pointwise [cooc]

theorem contrib_at : contrib N M k (ix2 b w) = ∑ p : Fin 20, ∑ v : Fin 20, hot N M (ix4 b w p v) * (once N M (ix2 b v) * diagK k (ix1 p)) := by
  pointwise [contrib]

/-- The number of unmasked positions of a walk. -/
def count : ℕ := (Finset.univ.filter fun p : Fin 20 => M (ix3 b w p) ≠ 0#32).card

theorem lengths_at : lengths M (ix2 b w) = ((count M b w : ℝ) : EReal) := by
  pointwise [lengths]
  unfold count
  refine (congrArg (FloatOps.sitofp FTy.f32 : BitVec 32 → Ideal .f32)
    (IndicatorCount.fold_addi_setWidth_eq_card (w := 32) (fun p : Fin 20 => IntOp.cmpi .ne (M (ix3 b w p)) 0#32) Finset.univ)).trans ?_
  have e : (Finset.univ.filter fun p : Fin 20 => IntOp.cmpi .ne (M (ix3 b w p)) 0#32 = 1#1)
      = Finset.univ.filter fun p : Fin 20 => M (ix3 b w p) ≠ 0#32 :=
    Finset.filter_congr fun p _ => by
      by_cases h : M (ix3 b w p) = 0#32
      · simp [IntOp.cmpi, h]
      · simp only [IntOp.cmpi, bne_iff_ne, ne_eq, h, not_false_eq_true, iff_true]
        rw [show (M (ix3 b w p) != 0#32) = true from bne_iff_ne.2 h]
        rfl
  rw [e]
  show (((BitVec.ofNat 32 _).toInt : ℝ) : EReal) = _
  rw [toInt_small (le_trans (Finset.card_le_univ _) (by simp))]
  simp

theorem guarded_at : guarded M (ix2 b w) = ((count M b w : ℝ) : EReal) + Ideal.ofBits .f32 841731191#32 := by
  pointwise [guarded]
  rw [lengths_at]

/-- A scatter-add at the index pairs `(w, w)` adds to the diagonal and leaves the rest alone. -/
theorem scatter_at (x : FVec Ideal S16x256x256 .f32) (upd : FVec Ideal S16x256 .f32) :
    Host.scatterAdd scatter_S16x256x256_S256x2_S16x256_0_12_12_1 x corners upd (ix3 b w u)
      = x (ix3 b w u) + if w = u then upd (ix2 b w) else (0 : EReal) := by
  have lands : ∀ j : S16x256.Idx, scatter_S16x256x256_S256x2_S16x256_0_12_12_1.resultIdx? j corners = some (ix3 b w u)
      ↔ j 0 = b ∧ j 1 = w ∧ w = u := by
    intro j
    have hc : ∀ e : Fin 2, (corners (ix2 (j 1) e)).toInt = ((j 1).val : Int) := fun e =>
      (congrArg BitVec.toInt (corners_at (j 1) e)).trans (toInt_small (le_of_lt (j 1).isLt))
    rw [Routing.resultIdx?_eq_some]
    constructor
    · intro h
      have h0 : (0 : Int) + ((j 0).val : Int) = (b.val : Int) := h 0
      have h1 : (corners (ix2 (j 1) (0 : Fin 2))).toInt + 0 = (w.val : Int) := h 1
      have h2 : (corners (ix2 (j 1) (1 : Fin 2))).toInt + 0 = (u.val : Int) := h 2
      rw [hc] at h1 h2
      exact ⟨Fin.ext (by omega), Fin.ext (by omega), Fin.ext (by omega)⟩
    · rintro ⟨h0, h1, h2⟩ a
      have e1 : (j 1).val = w.val := congrArg Fin.val h1
      have e2 : w.val = u.val := congrArg Fin.val h2
      match a with
      | ⟨0, _⟩ =>
        show (0 : Int) + ((j 0).val : Int) = (b.val : Int)
        rw [h0]; omega
      | ⟨1, _⟩ =>
        show (corners (ix2 (j 1) (0 : Fin 2))).toInt + 0 = (w.val : Int)
        rw [hc]; omega
      | ⟨2, _⟩ =>
        show (corners (ix2 (j 1) (1 : Fin 2))).toInt + 0 = (u.val : Int)
        rw [hc]; omega
  show x (ix3 b w u) + ∑ j ∈ Finset.univ.filter (fun j => scatter_S16x256x256_S256x2_S16x256_0_12_12_1.resultIdx? j corners = some (ix3 b w u)), upd j = _
  refine congrArg (x (ix3 b w u) + ·) ?_
  by_cases h : w = u
  · rw [if_pos h]
    have e : (Finset.univ.filter fun j => scatter_S16x256x256_S256x2_S16x256_0_12_12_1.resultIdx? j corners = some (ix3 b w u)) = {ix2 b w} := by
      ext j
      simp only [Finset.mem_filter, Finset.mem_univ, true_and, Finset.mem_singleton, lands]
      constructor
      · rintro ⟨h0, h1, -⟩
        funext a
        match a with
        | ⟨0, _⟩ => exact h0
        | ⟨1, _⟩ => exact h1
      · rintro rfl
        exact ⟨rfl, rfl, h⟩
    rw [e, Finset.sum_singleton]
  · rw [if_neg h]
    refine Finset.sum_eq_zero fun j hj => absurd ((lands j).1 (Finset.mem_filter.1 hj).2).2.2 h

theorem joined_at : joined N M k (ix3 b w u) = cooc N M k (ix3 b w u) + if w = u then -(contrib N M k (ix2 b w)) else 0 :=
  scatter_at b w u _ _

theorem whole_at : whole N M k (ix3 b w u)
    = Ideal.div (joined N M k (ix3 b w u)) (guarded M (ix2 b w) * guarded M (ix2 b u)) := by
  pointwise [whole]

end Pieces

variable (m : (ℓ : Loc nD τ sig) → Buf (Elt Ideal) ℓ)

/-- The reference's result is the pieces put together. -/
theorem res_out0_eq (c : Dev nD) : (res_out0 m c : FVec Ideal S16x256x256 .f32)
    = whole (m ((c.tc : Thread nD τ).loc main_arg0)) (m ((c.tc : Thread nD τ).loc main_arg1)) (m ((c.tc : Thread nD τ).loc main_arg2)) := rfl

end Cert.ReferenceIdeal.Value
-- ==== Proof.Equation.lean ====
module

public import proofs.«01_k».proof.Proof.Closed
public import proofs.«01_k».proof.Proof.Ref
public import proofs.«01_k».proof.Proof.Gen.Pre_in_range
public import Idealize.ShloMosaic.Lib.ReduceAll

/-! The equation: where the node ids and the mask lie in range, the array the kernel leaves is the reference's. -/

@[expose] public section

set_option maxRecDepth 16384

noncomputable section

open Idealize.ShloMosaic Idealize.ShloMosaic.TcCoe Idealize.SL.Sem

namespace Cert.Equation

/-- What the precondition says of one entry. -/
theorem in_range (N M : IVec Cert.Pre_in_range.S16x256x20 32) (k : FVec Ideal Cert.Pre_in_range.S20x20 .f32)
    (h : Cert.Pre_in_range.fn N M k = fun _ => 1#1) (b : Fin 16) (w : Fin 256) (p : Fin 20) :
    (N (ix3 b w p)).toNat < 20 ∧ (M (ix3 b w p) = 0#32 ∨ M (ix3 b w p) = 1#32) := by
  haveI : Subsingleton Cert.Pre_in_range.S_.Idx := ⟨fun a b => funext fun i => i.elim0⟩
  obtain ⟨eN, eM⟩ := IntOp.andi_eq_one.1 (congrFun h ix0)
  obtain ⟨n0, n1⟩ := IntOp.andi_eq_one.1 (Host.reduce_andi_all _ _ _ _ _ eN (ix3 b w p))
  obtain ⟨m0, m1⟩ := IntOp.andi_eq_one.1 (Host.reduce_andi_all _ _ _ _ _ eM (ix3 b w p))
  have n0' : (0#32).sle (N (ix3 b w p)) = true := (StableHlo.Predicate.ofBool_eq_one_iff _).1 n0
  have n1' : (N (ix3 b w p)).slt 20#32 = true := (StableHlo.Predicate.ofBool_eq_one_iff _).1 n1
  have m0' : (0#32).sle (M (ix3 b w p)) = true := (StableHlo.Predicate.ofBool_eq_one_iff _).1 m0
  have m1' : (M (ix3 b w p)).sle 1#32 = true := (StableHlo.Predicate.ofBool_eq_one_iff _).1 m1
  generalize N (ix3 b w p) = n at *
  generalize M (ix3 b w p) = m at *
  rw [BitVec.sle_eq_decide, decide_eq_true_iff] at n0' m0' m1'
  rw [BitVec.slt_eq_decide, decide_eq_true_iff] at n1'
  have z : (0#32).toInt = 0 := rfl
  have o : (1#32).toInt = 1 := rfl
  have t : (20#32).toInt = 20 := rfl
  rw [z] at n0' m0'
  rw [t] at n1'
  rw [o] at m1'
  refine ⟨?_, ?_⟩
  · have := n.isLt
    rw [BitVec.toInt_eq_toNat_cond] at n0' n1'
    split at n0' <;> omega
  · have := m.isLt
    rw [BitVec.toInt_eq_toNat_cond] at m0' m1'
    rw [BitVec.toNat_eq, BitVec.toNat_eq]
    show m.toNat = 0 ∨ m.toNat = 1
    split at m0' <;> omega

/-- The kernel's array is the reference's. -/
theorem result_eq (N M : IVec Cert.Pre_in_range.S16x256x20 32) (k : FVec Ideal Cert.Pre_in_range.S20x20 .f32)
    (h : Cert.Pre_in_range.fn N M k = fun _ => 1#1) :
    Cert.KernelIdeal.Value.result N M k = Cert.ReferenceIdeal.Value.whole N M k := by
  funext i
  have hr := in_range N M k h
  obtain ⟨b, w, u, rfl⟩ : ∃ (b : Fin 16) (w u : Fin 256), i = ix3 b w u := ⟨i 0, i 1, i 2, by
    funext a
    match a with
    | ⟨0, _⟩ => rfl
    | ⟨1, _⟩ => rfl
    | ⟨2, _⟩ => rfl⟩
  refine (Cert.KernelIdeal.Value.slab_at (Cert.KernelIdeal.Value.row N b) (Cert.KernelIdeal.Value.row M b) k
    (fun w p => (hr b w p).1) (fun w p => (hr b w p).2) w u).trans ?_
  have ho : ∀ w p v, Cert.ReferenceIdeal.Value.hot N M (ix4 b w p v)
      = Cert.KernelIdeal.Value.occ (Cert.KernelIdeal.Value.row N b) (Cert.KernelIdeal.Value.row M b) w p v := fun w p v =>
    Cert.ReferenceIdeal.Value.hot_at N M b w p v
  have hl : ∀ w, Cert.ReferenceIdeal.Value.guarded M (ix2 b w)
      = ((Cert.KernelIdeal.Value.len (Cert.KernelIdeal.Value.row M b) w : ℝ) : EReal) := fun w => by
    rw [Cert.ReferenceIdeal.Value.guarded_at, Cert.KernelIdeal.Value.guard_eq, ← EReal.coe_add]
    rfl
  rw [Cert.ReferenceIdeal.Value.whole_at, Cert.ReferenceIdeal.Value.joined_at, Cert.ReferenceIdeal.Value.cooc_at, Cert.ReferenceIdeal.Value.contrib_at]
  simp only [ho, hl, Cert.ReferenceIdeal.Value.once_at, Cert.ReferenceIdeal.Value.diagK_at]

end Cert.Equation
-- ==== Proof.Close.lean ====
module

public import proofs.«01_k».proof.Proof.Equation
public import proofs.«01_k».proof.Post_close_to_reference

/-! The kernel's array beside the quotient with its guard on the product of the walk lengths: every entry lies within a
relative 1e-8 of that quotient's. -/

@[expose] public section

set_option maxRecDepth 16384

noncomputable section

open Idealize.ShloMosaic Idealize.ShloMosaic.TcCoe Idealize.SL.Sem

namespace Cert.Close

/-- The postcondition's side conditions. -/
instance facts : Cert.Post_close_to_reference.Facts where
  bcast_S_S16x256x20 := Cert.ReferenceIdeal.Gen.bcast_S_S16x256x20
  bcast_S16x256x20_S16x256x20x1_0_1_2 := Cert.ReferenceIdeal.Gen.bcast_S16x256x20_S16x256x20x1_0_1_2
  bcast_S16x256x20x1_S16x256x20x20_0_1_2_3 := Cert.ReferenceIdeal.Gen.bcast_S16x256x20x1_S16x256x20x20_0_1_2_3
  bcast_S1x1x1x20_S16x256x20x20_0_1_2_3 := Cert.ReferenceIdeal.Gen.bcast_S1x1x1x20_S16x256x20x20_0_1_2_3
  transposes_S20x16x256x20_S16x256x20x20_1_2_0_3 := Cert.ReferenceIdeal.Gen.transposes_S20x16x256x20_S16x256x20x20_1_2_0_3
  reducesTo_S16x256x20x20_S16x20_d1_2 := Cert.ReferenceIdeal.Gen.reducesTo_S16x256x20x20_S16x20_d1_2
  h_S_ := Cert.ReferenceIdeal.Gen.h_S_
  bcast_S_S16x20 := Cert.ReferenceIdeal.Gen.bcast_S_S16x20
  bcast_S_S20 := Cert.ReferenceIdeal.Gen.bcast_S_S20
  bcast_S20_S20x1_0 := Cert.ReferenceIdeal.Gen.bcast_S20_S20x1_0
  concatenates_S20x1_S20x1_S20x2_d1 := Cert.ReferenceIdeal.Gen.concatenates_S20x1_S20x1_S20x2_d1
  bcast_S16x20_S16x1x20_0_2 := Cert.ReferenceIdeal.Gen.bcast_S16x20_S16x1x20_0_2
  bcast_S20_S1x20x1_1 := Cert.ReferenceIdeal.Gen.bcast_S20_S1x20x1_1
  bcast_S16x1x20_S16x20x20_0_1_2 := Cert.ReferenceIdeal.Gen.bcast_S16x1x20_S16x20x20_0_1_2
  bcast_S1x20x1_S16x20x20_0_1_2 := Cert.ReferenceIdeal.Gen.bcast_S1x20x1_S16x20x20_0_1_2
  bcast_S_S256 := Cert.ReferenceIdeal.Gen.bcast_S_S256
  bcast_S256_S256x1_0 := Cert.ReferenceIdeal.Gen.bcast_S256_S256x1_0
  concatenates_S256x1_S256x1_S256x2_d1 := Cert.ReferenceIdeal.Gen.concatenates_S256x1_S256x1_S256x2_d1
  natLt_1_32 := Cert.ReferenceIdeal.Gen.natLt_1_32
  reducesTo_S16x256x20_S16x256_d2 := Cert.ReferenceIdeal.Gen.reducesTo_S16x256x20_S16x256_d2
  bcast_S16x256_S16x256x1_0_1 := Cert.ReferenceIdeal.Gen.bcast_S16x256_S16x256x1_0_1
  bcast_S16x256_S16x1x256_0_2 := Cert.ReferenceIdeal.Gen.bcast_S16x256_S16x1x256_0_2
  bcast_S16x256x1_S16x256x256_0_1_2 := Cert.ReferenceIdeal.Gen.bcast_S16x256x1_S16x256x256_0_1_2
  bcast_S16x1x256_S16x256x256_0_1_2 := Cert.ReferenceIdeal.Gen.bcast_S16x1x256_S16x256x256_0_1_2
  bcast_S_S16x256x256 := by decide
  dot_S20x20_S16x256x20x20_S20x16x256x20_0_2_1_013_n_n_wf := Cert.ReferenceIdeal.Gen.dot_S20x20_S16x256x20x20_S20x16x256x20_0_2_1_013_n_n_wf
  dot_S16x256x20x20_S16x256x20x20_S16x256x256_23_23_1_1_0_0_wf := Cert.ReferenceIdeal.Gen.dot_S16x256x20x20_S16x256x20x20_S16x256x256_23_23_1_1_0_0_wf
  gather_S20x20_S20x2_S20_n_01_n_n_01_1_11_wf := Cert.ReferenceIdeal.Gen.gather_S20x20_S20x2_S20_n_01_n_n_01_1_11_wf
  dot_S16x256x20x20_S16x20x20_S16x256_23_12_1_n_0_0_wf := Cert.ReferenceIdeal.Gen.dot_S16x256x20x20_S16x20x20_S16x256_23_12_1_n_0_0_wf
  scatter_S16x256x256_S256x2_S16x256_0_12_12_1_wf := Cert.ReferenceIdeal.Gen.scatter_S16x256x256_S256x2_S16x256_0_12_12_1_wf

section Numbers

open Cert.KernelIdeal.Value (eps eps_pos)

/-- The absolute value the programs compute. -/
def mag (x : EReal) : EReal := max x (-x)

/-- Two quotients of one number, one guarded factor by factor and one on the product of the lengths. -/
theorem quotients (x : EReal) (a c : ℕ) (hx : a = 0 ∨ c = 0 → x = 0) :
    mag (Ideal.div x ((((a : ℝ) + eps : ℝ) : EReal) * (((c : ℝ) + eps : ℝ) : EReal)) - Ideal.div x (((a : ℝ) * (c : ℝ) + eps : ℝ) : EReal))
      ≤ (eps : EReal) * mag (Ideal.div x (((a : ℝ) * (c : ℝ) + eps : ℝ) : EReal)) := by
  have e0 := eps_pos
  have a0 : (0 : ℝ) ≤ a := Nat.cast_nonneg a
  have c0 : (0 : ℝ) ≤ c := Nat.cast_nonneg c
  have hD : (0 : ℝ) < a * c + eps := by positivity
  have hG : (0 : ℝ) < (a + eps) * (c + eps) := by positivity
  rw [← EReal.coe_mul, Ideal.div_coe hD.ne', Ideal.div_coe hG.ne']
  induction x with
  | bot =>
    rw [EReal.bot_mul_coe_of_pos (one_div_pos.2 hG), EReal.bot_mul_coe_of_pos (one_div_pos.2 hD)]
    have h : (eps : EReal) * mag ⊥ = ⊤ := by
      simp only [mag, EReal.neg_bot, max_eq_right bot_le]
      exact EReal.coe_mul_top_of_pos e0
    rw [h]; exact le_top
  | top =>
    rw [EReal.top_mul_coe_of_pos (one_div_pos.2 hG), EReal.top_mul_coe_of_pos (one_div_pos.2 hD)]
    have h : (eps : EReal) * mag ⊤ = ⊤ := by
      simp only [mag, EReal.neg_top, max_eq_left bot_le]
      exact EReal.coe_mul_top_of_pos e0
    rw [h]; exact le_top
  | coe r =>
    have coe_mag : ∀ y : ℝ, mag (y : EReal) = ((|y| : ℝ) : EReal) := fun y => by
      rw [mag, ← EReal.coe_neg, abs_eq_max_neg]
      exact (EReal.coe_strictMono.monotone.map_max).symm
    rw [← EReal.coe_mul, ← EReal.coe_mul, ← EReal.coe_sub, coe_mag, coe_mag, ← EReal.coe_mul, EReal.coe_le_coe_iff]
    by_cases h : a = 0 ∨ c = 0
    · have : r = 0 := by exact_mod_cast hx h
      simp [this]
    · have ha : (1 : ℝ) ≤ a := by exact_mod_cast Nat.one_le_iff_ne_zero.2 fun z => h (Or.inl z)
      have hc : (1 : ℝ) ≤ c := by exact_mod_cast Nat.one_le_iff_ne_zero.2 fun z => h (Or.inr z)
      have e1 : r * (1 / ((a + eps) * (c + eps))) - r * (1 / (a * c + eps))
          = r * (1 / (a * c + eps)) * (((a * c + eps) - (a + eps) * (c + eps)) / ((a + eps) * (c + eps))) := by
        field_simp
      rw [e1, abs_mul, mul_comm]
      refine mul_le_mul_of_nonneg_right ?_ (abs_nonneg _)
      rw [abs_div, abs_of_pos hG, div_le_iff₀ hG, abs_le]
      have hac : 0 ≤ ((a : ℝ) - 1) * (c - 1) := mul_nonneg (by linarith) (by linarith)
      have p1 : 0 ≤ eps * (((a : ℝ) - 1) * (c - 1)) := mul_nonneg e0.le hac
      have p2 : 0 ≤ eps * eps * ((a : ℝ) - 1) := mul_nonneg (mul_pos e0 e0).le (by linarith)
      have p3 : 0 ≤ eps * eps * (c : ℝ) := mul_nonneg (mul_pos e0 e0).le c0
      have p4 : 0 ≤ eps * eps * eps := (mul_pos (mul_pos e0 e0) e0).le
      have p5 : 0 ≤ eps * ((a : ℝ) * c) := by positivity
      have p6 : 0 ≤ eps * ((a : ℝ) - 1) := mul_nonneg e0.le (by linarith)
      have p7 : 0 ≤ eps * (c : ℝ) := mul_nonneg e0.le c0
      constructor <;> nlinarith

/-- Two quotients of one number by positive reals are equal where the second is infinite. -/
theorem infinite (x : EReal) {g d : ℝ} (hg : 0 < g) (hd : 0 < d) :
    Ideal.div x (g : EReal) = Ideal.div x (d : EReal) ∨ mag (Ideal.div x (d : EReal)) < ⊤ := by
  rw [Ideal.div_coe hg.ne', Ideal.div_coe hd.ne']
  induction x with
  | bot => left; rw [EReal.bot_mul_coe_of_pos (one_div_pos.2 hg), EReal.bot_mul_coe_of_pos (one_div_pos.2 hd)]
  | top => left; rw [EReal.top_mul_coe_of_pos (one_div_pos.2 hg), EReal.top_mul_coe_of_pos (one_div_pos.2 hd)]
  | coe r =>
    right
    rw [← EReal.coe_mul, mag, ← EReal.coe_neg]
    exact max_lt (EReal.coe_lt_top _) (EReal.coe_lt_top _)

theorem inf_eq : Ideal.ofBits .f32 0x7F800000#32 = ⊤ := by
  simp [Ideal.ofBits, Ideal.ieee]

end Numbers

section Plain

open Cert.ReferenceIdeal Cert.ReferenceIdeal.Gen Cert.ReferenceIdeal.Value

variable (N M : IVec S16x256x20 32) (k : FVec Ideal S20x20 .f32)

/-- The guard, at every entry. -/
def guards : FVec Ideal S16x256x256 .f32 :=
  broadcastInDim S16x256x256 ![] facts.bcast_S_S16x256x256 (constant S_ .f32 0x322BCC77#32)

/-- The quotient with its guard on the product of the lengths. -/
def plain : FVec Ideal S16x256x256 .f32 :=
  Host.divf (joined N M k) (addf (mulf (broadcastInDim S16x256x256 ![0, 1, 2] bcast_S16x256x1_S16x256x256_0_1_2 (broadcastInDim S16x256x1 ![0, 1] bcast_S16x256_S16x256x1_0_1 (lengths M))) (broadcastInDim S16x256x256 ![0, 1, 2] bcast_S16x1x256_S16x256x256_0_1_2 (broadcastInDim S16x1x256 ![0, 2] bcast_S16x256_S16x1x256_0_2 (lengths M)))) guards)

/-- The postcondition compares the result with that quotient. -/
theorem post_eq (O : FVec Ideal S16x256x256 .f32) : Cert.Post_close_to_reference.fn N M k O
    = andi (cmpf .ole (Host.absf (subf O (plain N M k))) (mulf guards (Host.absf (plain N M k))))
        (ori (cmpf .oeq O (plain N M k)) (cmpf .olt (Host.absf (plain N M k))
          (broadcastInDim S16x256x256 ![] facts.bcast_S_S16x256x256 (constant S_ .f32 0x7F800000#32)))) := rfl

variable (b : Fin 16) (w u : Fin 256)

theorem guarded_eq : guarded M (ix2 b w) = (((count M b w : ℝ) + Cert.KernelIdeal.Value.eps : ℝ) : EReal) := by
  rw [guarded_at, Cert.KernelIdeal.Value.guard_eq, ← EReal.coe_add]

theorem plain_at : plain N M k (ix3 b w u)
    = Ideal.div (joined N M k (ix3 b w u)) (((count M b w : ℝ) * (count M b u : ℝ) + Cert.KernelIdeal.Value.eps : ℝ) : EReal) := by
  pointwise [plain, guards]
  rw [lengths_at, lengths_at, Cert.KernelIdeal.Value.guard_eq, ← EReal.coe_mul, ← EReal.coe_add]

/-- A walk with no unmasked position has no occurrence. -/
theorem hot_empty (h : count M b w = 0) (p v : Fin 20) : hot N M (ix4 b w p v) = 0 := by
  rw [hot_at, if_neg]
  rintro ⟨hp, -⟩
  exact absurd (Finset.mem_filter.2 ⟨Finset.mem_univ p, hp⟩) (by rw [Finset.card_eq_zero.1 h]; exact Finset.notMem_empty p)

/-- Where either walk is empty there is nothing to divide. -/
theorem joined_empty (h : count M b w = 0 ∨ count M b u = 0) : joined N M k (ix3 b w u) = 0 := by
  have hc : cooc N M k (ix3 b w u) = 0 := by
    rw [cooc_at]
    rcases h with h | h
    · simp only [hot_empty N M b w h, mul_zero, zero_mul, Finset.sum_const_zero]
    · simp only [hot_empty N M b u h, mul_zero, Finset.sum_const_zero]
  rw [joined_at, hc, zero_add]
  by_cases e : w = u
  · subst e
    rw [if_pos rfl, contrib_at]
    simp only [hot_empty N M b w (h.elim id id), zero_mul, Finset.sum_const_zero, neg_zero]
  · rw [if_neg e]

/-- The reference's result meets the postcondition. -/
theorem post_whole : Cert.Post_close_to_reference.fn N M k (whole N M k) = fun _ => 1#1 := by
  rw [post_eq]
  funext i
  obtain ⟨b, w, u, rfl⟩ : ∃ (b : Fin 16) (w u : Fin 256), i = ix3 b w u := ⟨i 0, i 1, i 2, by
    funext a
    match a with
    | ⟨0, _⟩ => rfl
    | ⟨1, _⟩ => rfl
    | ⟨2, _⟩ => rfl⟩
  have q := quotients (joined N M k (ix3 b w u)) (count M b w) (count M b u) (joined_empty N M k b w u)
  have e0 := Cert.KernelIdeal.Value.eps_pos
  have s := infinite (joined N M k (ix3 b w u)) (g := (count M b w + Cert.KernelIdeal.Value.eps) * (count M b u + Cert.KernelIdeal.Value.eps))
    (d := count M b w * count M b u + Cert.KernelIdeal.Value.eps) (by positivity) (by positivity)
  rw [EReal.coe_mul] at s
  rw [← guarded_eq, ← guarded_eq, ← whole_at, ← plain_at] at q s
  rw [← Cert.KernelIdeal.Value.guard_eq] at q
  rw [← inf_eq] at s
  exact IntOp.andi_eq_one.2 ⟨(StableHlo.Predicate.ofBool_eq_one_iff _).2 (decide_eq_true q),
    IntOp.ori_eq_one.2 (s.imp (fun h => (StableHlo.Predicate.ofBool_eq_one_iff _).2 (decide_eq_true h))
      (fun h => (StableHlo.Predicate.ofBool_eq_one_iff _).2 (decide_eq_true h)))⟩

end Plain

end Cert.Close
-- ==== Proof.lean ====
module

public import proofs.«01_k».proof.Defs
public import proofs.«01_k».proof.Proof.Gen.Kernel.Frame
public import proofs.«01_k».proof.Proof.Gen.KernelIdeal.Value
public import proofs.«01_k».proof.Proof.Gen.Pre_in_range
public import proofs.«01_k».proof.Proof.Gen.ReferenceIdeal.Run
public import proofs.«01_k».proof.Proof.Close
public import Idealize.ShloMosaic.Adequacy
public import Idealize.ShloMosaic.Init
public import Idealize.ShloMosaic.Lib.Quiescent

/-! The claim, put together: the kernel's run with its result array named, the reference's run with its composed term,
and the equation between the two. -/

@[expose] public section

noncomputable section

namespace Cert.Proof

open Idealize.ShloMosaic Idealize.SL.Sem

/-- The reference runs, keeps its arguments and leaves every counter at zero. -/
theorem reference_frame (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
        ∧ r.2.sem = fun _ => 0) :=
  (θ_run Cert.ReferenceIdeal.defs _ _).mono (fun r h => ⟨fun c => (h c).2, sem_eq_zero_of_no_sems (by decide) r.2⟩)
    (Cert.ReferenceIdeal.Value.run (F := Ideal) m ρ)

/-- The kernel and the reference end with equal results. -/
theorem same_result : Cert.algebraic_KernelIdeal_ReferenceIdeal_pre_in_range := by
  intro m ρ m' ρ' hpre hagree
  refine ⟨_, Cert.KernelIdeal.Value.run_blocks (F := Ideal) m ρ, ?_⟩
  refine (θ_run Cert.ReferenceIdeal.defs _ _).mono (fun _ h c => ⟨?_, (h c).2⟩) (Cert.ReferenceIdeal.Value.run (F := Ideal) m' ρ')
  refine ((h c).1.trans (Cert.ReferenceIdeal.Value.res_out0_eq m' c)).trans ?_
  rw [(hagree c).1, (hagree c).2.1, (hagree c).2.2]
  exact ((Cert.KernelIdeal.Value.final_result m c).trans (Cert.Equation.result_eq _ _ _ (hpre c))).symm

/-- The kernel's result meets the postcondition. -/
theorem near_result : Cert.holds_KernelIdeal_close_to_reference_pre_in_range := by
  intro m ρ hpre
  refine (θ_run Cert.KernelIdeal.defs _ _).mono (fun _ h c => ⟨(h c).2.1, (h c).2.2.1, (h c).2.2.2, ?_⟩)
    (Cert.KernelIdeal.Value.run_blocks (F := Ideal) m ρ)
  rw [(h c).1, Cert.KernelIdeal.Value.final_result m c, Cert.Equation.result_eq _ _ _ (hpre c)]
  exact Cert.Close.post_whole _ _ _

theorem claim : Cert.Claim :=
  ⟨Cert.Kernel.Gen.facts, Cert.KernelIdeal.Gen.facts, Cert.ReferenceIdeal.Gen.facts, Cert.Pre_in_range.Gen.facts, Cert.Close.facts,
    fun m ρ _ => Cert.Kernel.Gen.frame m ρ, fun m ρ _ => Cert.KernelIdeal.Gen.frame m ρ, fun m ρ _ => Cert.KernelIdeal.Gen.frame m ρ,
    fun m ρ _ => reference_frame m ρ, fun m ρ _ => reference_frame m ρ, (trivial : Cert.preserves_Kernel_KernelIdeal), same_result, near_result⟩

end Cert.Proof
